-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_on_rings [hPre_finite_on_rings : Cert.Pre_finite_on_rings.Facts] (m : (ℓ : Loc Cert.KernelIdeal.nD Cert.KernelIdeal.τ Cert.KernelIdeal.sig) → Buf (Elt Ideal) ℓ) : Prop :=
  ∀ c : Dev Cert.KernelIdeal.nD,
    (Cert.Pre_finite_on_rings.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_on_rings [hPre_finite_on_rings : Cert.Pre_finite_on_rings.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_on_rings.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite_on_rings [hKernelIdeal : Cert.KernelIdeal.Facts] [hPre_finite_on_rings : Cert.Pre_finite_on_rings.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_on_rings m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite_on_rings [hReferenceIdeal : Cert.ReferenceIdeal.Facts] [hPre_finite_on_rings : Cert.Pre_finite_on_rings.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_on_rings m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_finite_on_rings [hKernelIdeal : Cert.KernelIdeal.Facts] [hReferenceIdeal : Cert.ReferenceIdeal.Facts] [hPre_finite_on_rings : Cert.Pre_finite_on_rings.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_on_rings m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_on_rings : Cert.Pre_finite_on_rings.Facts),
    quiescent_Kernel (hKernel := hKernel)
    ∧ quiescent_KernelIdeal (hKernelIdeal := hKernelIdeal)
    ∧ quiescent_KernelIdeal_pre_finite_on_rings (hKernelIdeal := hKernelIdeal) (hPre_finite_on_rings := hPre_finite_on_rings)
    ∧ quiescent_ReferenceIdeal (hReferenceIdeal := hReferenceIdeal)
    ∧ quiescent_ReferenceIdeal_pre_finite_on_rings (hReferenceIdeal := hReferenceIdeal) (hPre_finite_on_rings := hPre_finite_on_rings)
    ∧ preserves_Kernel_KernelIdeal
    ∧ algebraic_KernelIdeal_ReferenceIdeal_pre_finite_on_rings (hKernelIdeal := hKernelIdeal) (hReferenceIdeal := hReferenceIdeal) (hPre_finite_on_rings := hPre_finite_on_rings)
-- ==== Pre_finite_on_rings.lean ====
abbrev S1024x16x25 : Shape := ⟨3, ![1024, 16, 25]⟩
abbrev S1024x12x25 : Shape := ⟨3, ![1024, 12, 25]⟩
abbrev S32x1x3 : Shape := ⟨3, ![32, 1, 3]⟩
abbrev S32 : Shape := ⟨1, ![32]⟩
abbrev S800x64 : Shape := ⟨2, ![800, 64]⟩
abbrev S64 : Shape := ⟨1, ![64]⟩
abbrev S1024x256 : Shape := ⟨2, ![1024, 256]⟩
abbrev S256 : Shape := ⟨1, ![256]⟩
abbrev S768x256 : Shape := ⟨2, ![768, 256]⟩
abbrev S256x1 : Shape := ⟨2, ![256, 1]⟩
abbrev S1 : Shape := ⟨1, ![1]⟩
abbrev S2x32 : Shape := ⟨2, ![2, 32]⟩
abbrev S2x24 : Shape := ⟨2, ![2, 24]⟩
abbrev S_ : Shape := ⟨0, ![]⟩

class Facts : Prop where
  reducesTo_S2x32_S_d0_1 : S2x32.ReducesTo [0, 1] S_
  h_S_ : 0 < S_.numel
  reducesTo_S2x24_S_d0_1 : S2x24.ReducesTo [0, 1] S_
  bcast_S_S1024x16x25 : S_.BroadcastsInDim S1024x16x25 (![] : Fin 0 → Fin S1024x16x25.rank)
  reducesTo_S1024x16x25_S_d0_1_2 : S1024x16x25.ReducesTo [0, 1, 2] S_
  bcast_S_S1024x12x25 : S_.BroadcastsInDim S1024x12x25 (![] : Fin 0 → Fin S1024x12x25.rank)
  reducesTo_S1024x12x25_S_d0_1_2 : S1024x12x25.ReducesTo [0, 1, 2] S_
  bcast_S_S32x1x3 : S_.BroadcastsInDim S32x1x3 (![] : Fin 0 → Fin S32x1x3.rank)
  reducesTo_S32x1x3_S_d0_1_2 : S32x1x3.ReducesTo [0, 1, 2] S_
  bcast_S_S32 : S_.BroadcastsInDim S32 (![] : Fin 0 → Fin S32.rank)
  reducesTo_S32_S_d0 : S32.ReducesTo [0] S_
  bcast_S_S800x64 : S_.BroadcastsInDim S800x64 (![] : Fin 0 → Fin S800x64.rank)
  reducesTo_S800x64_S_d0_1 : S800x64.ReducesTo [0, 1] S_
  bcast_S_S64 : S_.BroadcastsInDim S64 (![] : Fin 0 → Fin S64.rank)
  reducesTo_S64_S_d0 : S64.ReducesTo [0] S_
  bcast_S_S1024x256 : S_.BroadcastsInDim S1024x256 (![] : Fin 0 → Fin S1024x256.rank)
  reducesTo_S1024x256_S_d0_1 : S1024x256.ReducesTo [0, 1] S_
  bcast_S_S768x256 : S_.BroadcastsInDim S768x256 (![] : Fin 0 → Fin S768x256.rank)
  reducesTo_S768x256_S_d0_1 : S768x256.ReducesTo [0, 1] S_

variable [Facts]

noncomputable abbrev lit0 : Fin 64 → BitVec 32 := fun
  | 0 => 0#32 | 1 => 1#32 | 2 => 2#32 | 3 => 3#32 | 4 => 4#32 | 5 => 5#32 | 6 => 6#32 | 7 => 7#32
  | 8 => 8#32 | 9 => 9#32 | 10 => 10#32 | 11 => 11#32 | 12 => 12#32 | 13 => 13#32 | 14 => 14#32 | 15 => 15#32
  | 16 => 1#32 | 17 => 2#32 | 18 => 3#32 | 19 => 4#32 | 20 => 5#32 | 21 => 6#32 | 22 => 7#32 | 23 => 8#32
  | 24 => 9#32 | 25 => 10#32 | 26 => 11#32 | 27 => 12#32 | 28 => 13#32 | 29 => 14#32 | 30 => 15#32 | 31 => 0#32
  | 32 => 1#32 | 33 => 2#32 | 34 => 3#32 | 35 => 4#32 | 36 => 5#32 | 37 => 6#32 | 38 => 7#32 | 39 => 8#32
  | 40 => 9#32 | 41 => 10#32 | 42 => 11#32 | 43 => 12#32 | 44 => 13#32 | 45 => 14#32 | 46 => 15#32 | 47 => 0#32
  | 48 => 0#32 | 49 => 1#32 | 50 => 2#32 | 51 => 3#32 | 52 => 4#32 | 53 => 5#32 | 54 => 6#32 | 55 => 7#32
  | 56 => 8#32 | 57 => 9#32 | 58 => 10#32 | 59 => 11#32 | 60 => 12#32 | 61 => 13#32 | 62 => 14#32 | 63 => 15#32
  | _ => 0#32

noncomputable abbrev lit1 : Fin 48 → BitVec 32 := fun
  | 0 => 0#32 | 1 => 1#32 | 2 => 2#32 | 3 => 3#32 | 4 => 4#32 | 5 => 5#32 | 6 => 6#32 | 7 => 7#32
  | 8 => 8#32 | 9 => 9#32 | 10 => 10#32 | 11 => 11#32 | 12 => 1#32 | 13 => 2#32 | 14 => 3#32 | 15 => 4#32
  | 16 => 5#32 | 17 => 6#32 | 18 => 7#32 | 19 => 8#32 | 20 => 9#32 | 21 => 10#32 | 22 => 11#32 | 23 => 0#32
  | 24 => 1#32 | 25 => 2#32 | 26 => 3#32 | 27 => 4#32 | 28 => 5#32 | 29 => 6#32 | 30 => 7#32 | 31 => 8#32
  | 32 => 9#32 | 33 => 10#32 | 34 => 11#32 | 35 => 0#32 | 36 => 0#32 | 37 => 1#32 | 38 => 2#32 | 39 => 3#32
  | 40 => 4#32 | 41 => 5#32 | 42 => 6#32 | 43 => 7#32 | 44 => 8#32 | 45 => 9#32 | 46 => 10#32 | 47 => 11#32
  | _ => 0#32

def fn_part4 {F : FTy → Type} [FloatOps F] (main_arg14 : FVec F S768x256 .f32) (main_v64 : IVec S_ 1) (main_v65 : FVec F S1024x256 .f32) (main_v66 : FVec F S1024x256 .f32) : IVec S_ 1 :=
  let main_v67 : IVec S1024x256 1 := cmpf .olt main_v65 main_v66
  let main_c_27 : IVec S_ 1 := constantI S_ 1 1#1
  let main_v68 : IVec S_ 1 := (fun x v => Host.reduce IntOp.andi x v reducesTo_S1024x256_S_d0_1 h_S_) main_v67 main_c_27
  let main_v69 : IVec S_ 1 := andi main_v64 main_v68
  let main_v70 : FVec F S768x256 .f32 := Host.absf main_arg14
  let main_cst_28 : FVec F S_ .f32 := constant S_ .f32 0x7F800000#32
  let main_v71 : FVec F S768x256 .f32 := broadcastInDim S768x256 ![] bcast_S_S768x256 main_cst_28
  let main_v72 : IVec S768x256 1 := cmpf .olt main_v70 main_v71
  let main_c_29 : IVec S_ 1 := constantI S_ 1 1#1
  let main_v73 : IVec S_ 1 := (fun x v => Host.reduce IntOp.andi x v reducesTo_S768x256_S_d0_1 h_S_) main_v72 main_c_29
  let main_v74 : IVec S_ 1 := andi main_v69 main_v73
  main_v74

def fn_part3 {F : FTy → Type} [FloatOps F] (main_arg9 : FVec F S800x64 .f32) (main_arg10 : FVec F S800x64 .f32) (main_arg11 : FVec F S64 .f32) (main_arg12 : FVec F S1024x256 .f32) (main_arg14 : FVec F S768x256 .f32) (main_v49 : IVec S_ 1) : IVec S_ 1 :=
  let main_v50 : FVec F S800x64 .f32 := Host.absf main_arg9
  let main_cst_20 : FVec F S_ .f32 := constant S_ .f32 0x7F800000#32
  let main_v51 : FVec F S800x64 .f32 := broadcastInDim S800x64 ![] bcast_S_S800x64 main_cst_20
  let main_v52 : IVec S800x64 1 := cmpf .olt main_v50 main_v51
  let main_c_21 : IVec S_ 1 := constantI S_ 1 1#1
  let main_v53 : IVec S_ 1 := (fun x v => Host.reduce IntOp.andi x v reducesTo_S800x64_S_d0_1 h_S_) main_v52 main_c_21
  let main_v54 : IVec S_ 1 := andi main_v49 main_v53
  let main_v55 : FVec F S800x64 .f32 := Host.absf main_arg10
  let main_cst_22 : FVec F S_ .f32 := constant S_ .f32 0x7F800000#32
  let main_v56 : FVec F S800x64 .f32 := broadcastInDim S800x64 ![] bcast_S_S800x64 main_cst_22
  let main_v57 : IVec S800x64 1 := cmpf .olt main_v55 main_v56
  let main_c_23 : IVec S_ 1 := constantI S_ 1 1#1
  let main_v58 : IVec S_ 1 := (fun x v => Host.reduce IntOp.andi x v reducesTo_S800x64_S_d0_1 h_S_) main_v57 main_c_23
  let main_v59 : IVec S_ 1 := andi main_v54 main_v58
  let main_v60 : FVec F S64 .f32 := Host.absf main_arg11
  let main_cst_24 : FVec F S_ .f32 := constant S_ .f32 0x7F800000#32
  let main_v61 : FVec F S64 .f32 := broadcastInDim S64 ![] bcast_S_S64 main_cst_24
  let main_v62 : IVec S64 1 := cmpf .olt main_v60 main_v61
  let main_c_25 : IVec S_ 1 := constantI S_ 1 1#1
  let main_v63 : IVec S_ 1 := (fun x v => Host.reduce IntOp.andi x v reducesTo_S64_S_d0 h_S_) main_v62 main_c_25
  let main_v64 : IVec S_ 1 := andi main_v59 main_v63
  let main_v65 : FVec F S1024x256 .f32 := Host.absf main_arg12
  let main_cst_26 : FVec F S_ .f32 := constant S_ .f32 0x7F800000#32
  let main_v66 : FVec F S1024x256 .f32 := broadcastInDim S1024x256 ![] bcast_S_S1024x256 main_cst_26
  fn_part4 (F := F) main_arg14 main_v64 main_v65 main_v66

def fn_part2 {F : FTy → Type} [FloatOps F] (main_arg6 : FVec F S800x64 .f32) (main_arg7 : FVec F S800x64 .f32) (main_arg8 : FVec F S64 .f32) (main_arg9 : FVec F S800x64 .f32) (main_arg10 : FVec F S800x64 .f32) (main_arg11 : FVec F S64 .f32) (main_arg12 : FVec F S1024x256 .f32) (main_arg14 : FVec F S768x256 .f32) (main_v29 : IVec S_ 1) (main_v32 : IVec S32 1) : IVec S_ 1 :=
  let main_c_13 : IVec S_ 1 := constantI S_ 1 1#1
  let main_v33 : IVec S_ 1 := (fun x v => Host.reduce IntOp.andi x v reducesTo_S32_S_d0 h_S_) main_v32 main_c_13
  let main_v34 : IVec S_ 1 := andi main_v29 main_v33
  let main_v35 : FVec F S800x64 .f32 := Host.absf main_arg6
  let main_cst_14 : FVec F S_ .f32 := constant S_ .f32 0x7F800000#32
  let main_v36 : FVec F S800x64 .f32 := broadcastInDim S800x64 ![] bcast_S_S800x64 main_cst_14
  let main_v37 : IVec S800x64 1 := cmpf .olt main_v35 main_v36
  let main_c_15 : IVec S_ 1 := constantI S_ 1 1#1
  let main_v38 : IVec S_ 1 := (fun x v => Host.reduce IntOp.andi x v reducesTo_S800x64_S_d0_1 h_S_) main_v37 main_c_15
  let main_v39 : IVec S_ 1 := andi main_v34 main_v38
  let main_v40 : FVec F S800x64 .f32 := Host.absf main_arg7
  let main_cst_16 : FVec F S_ .f32 := constant S_ .f32 0x7F800000#32
  let main_v41 : FVec F S800x64 .f32 := broadcastInDim S800x64 ![] bcast_S_S800x64 main_cst_16
  let main_v42 : IVec S800x64 1 := cmpf .olt main_v40 main_v41
  let main_c_17 : IVec S_ 1 := constantI S_ 1 1#1
  let main_v43 : IVec S_ 1 := (fun x v => Host.reduce IntOp.andi x v reducesTo_S800x64_S_d0_1 h_S_) main_v42 main_c_17
  let main_v44 : IVec S_ 1 := andi main_v39 main_v43
  let main_v45 : FVec F S64 .f32 := Host.absf main_arg8
  let main_cst_18 : FVec F S_ .f32 := constant S_ .f32 0x7F800000#32
  let main_v46 : FVec F S64 .f32 := broadcastInDim S64 ![] bcast_S_S64 main_cst_18
  let main_v47 : IVec S64 1 := cmpf .olt main_v45 main_v46
  let main_c_19 : IVec S_ 1 := constantI S_ 1 1#1
  let main_v48 : IVec S_ 1 := (fun x v => Host.reduce IntOp.andi x v reducesTo_S64_S_d0 h_S_) main_v47 main_c_19
  let main_v49 : IVec S_ 1 := andi main_v44 main_v48
  fn_part3 (F := F) main_arg9 main_arg10 main_arg11 main_arg12 main_arg14 main_v49

def fn_part1 {F : FTy → Type} [FloatOps F] (main_arg3 : FVec F S32 .f32) (main_arg4 : FVec F S32x1x3 .f32) (main_arg5 : FVec F S32 .f32) (main_arg6 : FVec F S800x64 .f32) (main_arg7 : FVec F S800x64 .f32) (main_arg8 : FVec F S64 .f32) (main_arg9 : FVec F S800x64 .f32) (main_arg10 : FVec F S800x64 .f32) (main_arg11 : FVec F S64 .f32) (main_arg12 : FVec F S1024x256 .f32) (main_arg14 : FVec F S768x256 .f32) (main_v14 : IVec S_ 1) (main_v15 : FVec F S32x1x3 .f32) : IVec S_ 1 :=
  let main_cst_6 : FVec F S_ .f32 := constant S_ .f32 0x7F800000#32
  let main_v16 : FVec F S32x1x3 .f32 := broadcastInDim S32x1x3 ![] bcast_S_S32x1x3 main_cst_6
  let main_v17 : IVec S32x1x3 1 := cmpf .olt main_v15 main_v16
  let main_c_7 : IVec S_ 1 := constantI S_ 1 1#1
  let main_v18 : IVec S_ 1 := (fun x v => Host.reduce IntOp.andi x v reducesTo_S32x1x3_S_d0_1_2 h_S_) main_v17 main_c_7
  let main_v19 : IVec S_ 1 := andi main_v14 main_v18
  let main_v20 : FVec F S32 .f32 := Host.absf main_arg3
  let main_cst_8 : FVec F S_ .f32 := constant S_ .f32 0x7F800000#32
  let main_v21 : FVec F S32 .f32 := broadcastInDim S32 ![] bcast_S_S32 main_cst_8
  let main_v22 : IVec S32 1 := cmpf .olt main_v20 main_v21
  let main_c_9 : IVec S_ 1 := constantI S_ 1 1#1
  let main_v23 : IVec S_ 1 := (fun x v => Host.reduce IntOp.andi x v reducesTo_S32_S_d0 h_S_) main_v22 main_c_9
  let main_v24 : IVec S_ 1 := andi main_v19 main_v23
  let main_v25 : FVec F S32x1x3 .f32 := Host.absf main_arg4
  let main_cst_10 : FVec F S_ .f32 := constant S_ .f32 0x7F800000#32
  let main_v26 : FVec F S32x1x3 .f32 := broadcastInDim S32x1x3 ![] bcast_S_S32x1x3 main_cst_10
  let main_v27 : IVec S32x1x3 1 := cmpf .olt main_v25 main_v26
  let main_c_11 : IVec S_ 1 := constantI S_ 1 1#1
  let main_v28 : IVec S_ 1 := (fun x v => Host.reduce IntOp.andi x v reducesTo_S32x1x3_S_d0_1_2 h_S_) main_v27 main_c_11
  let main_v29 : IVec S_ 1 := andi main_v24 main_v28
  let main_v30 : FVec F S32 .f32 := Host.absf main_arg5
  let main_cst_12 : FVec F S_ .f32 := constant S_ .f32 0x7F800000#32
  let main_v31 : FVec F S32 .f32 := broadcastInDim S32 ![] bcast_S_S32 main_cst_12
  let main_v32 : IVec S32 1 := cmpf .olt main_v30 main_v31
  fn_part2 (F := F) main_arg6 main_arg7 main_arg8 main_arg9 main_arg10 main_arg11 main_arg12 main_arg14 main_v29 main_v32

def fn {F : FTy → Type} [FloatOps F] (main_arg0 : FVec F S1024x16x25 .f32) (main_arg1 : FVec F S1024x12x25 .f32) (main_arg2 : FVec F S32x1x3 .f32) (main_arg3 : FVec F S32 .f32) (main_arg4 : FVec F S32x1x3 .f32) (main_arg5 : FVec F S32 .f32) (main_arg6 : FVec F S800x64 .f32) (main_arg7 : FVec F S800x64 .f32) (main_arg8 : FVec F S64 .f32) (main_arg9 : FVec F S800x64 .f32) (main_arg10 : FVec F S800x64 .f32) (main_arg11 : FVec F S64 .f32) (main_arg12 : FVec F S1024x256 .f32) (main_arg13 : FVec F S256 .f32) (main_arg14 : FVec F S768x256 .f32) (main_arg15 : FVec F S256 .f32) (main_arg16 : FVec F S256x1 .f32) (main_arg17 : FVec F S1 .f32) (main_arg18 : FVec F S256x1 .f32) (main_arg19 : FVec F S1 .f32) (main_arg20 : IVec S2x32 32) (main_arg21 : IVec S2x24 32) : IVec S_ 1 :=
  let main_c : IVec S2x32 32 := fun i => lit0 (S2x32.rowMajor i)
  let main_c_0 : IVec S2x24 32 := fun i => lit1 (S2x24.rowMajor i)
  let main_v0 : IVec S2x32 1 := cmpi .eq main_arg20 main_c
  let main_c_1 : IVec S_ 1 := constantI S_ 1 1#1
  let main_v1 : IVec S_ 1 := (fun x v => Host.reduce IntOp.andi x v reducesTo_S2x32_S_d0_1 h_S_) main_v0 main_c_1
  let main_v2 : IVec S2x24 1 := cmpi .eq main_arg21 main_c_0
  let main_c_2 : IVec S_ 1 := constantI S_ 1 1#1
  let main_v3 : IVec S_ 1 := (fun x v => Host.reduce IntOp.andi x v reducesTo_S2x24_S_d0_1 h_S_) main_v2 main_c_2
  let main_v4 : IVec S_ 1 := andi main_v1 main_v3
  let main_v5 : FVec F S1024x16x25 .f32 := Host.absf main_arg0
  let main_cst : FVec F S_ .f32 := constant S_ .f32 0x7F800000#32
  let main_v6 : FVec F S1024x16x25 .f32 := broadcastInDim S1024x16x25 ![] bcast_S_S1024x16x25 main_cst
  let main_v7 : IVec S1024x16x25 1 := cmpf .olt main_v5 main_v6
  let main_c_3 : IVec S_ 1 := constantI S_ 1 1#1
  let main_v8 : IVec S_ 1 := (fun x v => Host.reduce IntOp.andi x v reducesTo_S1024x16x25_S_d0_1_2 h_S_) main_v7 main_c_3
  let main_v9 : IVec S_ 1 := andi main_v4 main_v8
  let main_v10 : FVec F S1024x12x25 .f32 := Host.absf main_arg1
  let main_cst_4 : FVec F S_ .f32 := constant S_ .f32 0x7F800000#32
  let main_v11 : FVec F S1024x12x25 .f32 := broadcastInDim S1024x12x25 ![] bcast_S_S1024x12x25 main_cst_4
  let main_v12 : IVec S1024x12x25 1 := cmpf .olt main_v10 main_v11
  let main_c_5 : IVec S_ 1 := constantI S_ 1 1#1
  let main_v13 : IVec S_ 1 := (fun x v => Host.reduce IntOp.andi x v reducesTo_S1024x12x25_S_d0_1_2 h_S_) main_v12 main_c_5
  let main_v14 : IVec S_ 1 := andi main_v9 main_v13
  let main_v15 : FVec F S32x1x3 .f32 := Host.absf main_arg2
  fn_part1 (F := F) main_arg3 main_arg4 main_arg5 main_arg6 main_arg7 main_arg8 main_arg9 main_arg10 main_arg11 main_arg12 main_arg14 main_v14 main_v15
-- ==== Kernel.lean ====
abbrev S1024x16x25 : Shape := ⟨3, ![1024, 16, 25]⟩
abbrev S1024x12x25 : Shape := ⟨3, ![1024, 12, 25]⟩
abbrev S32x1x3 : Shape := ⟨3, ![32, 1, 3]⟩
abbrev S32 : Shape := ⟨1, ![32]⟩
abbrev S800x64 : Shape := ⟨2, ![800, 64]⟩
abbrev S64 : Shape := ⟨1, ![64]⟩
abbrev S1024x256 : Shape := ⟨2, ![1024, 256]⟩
abbrev S256 : Shape := ⟨1, ![256]⟩
abbrev S768x256 : Shape := ⟨2, ![768, 256]⟩
abbrev S256x1 : Shape := ⟨2, ![256, 1]⟩
abbrev S1 : Shape := ⟨1, ![1]⟩
abbrev S2x32 : Shape := ⟨2, ![2, 32]⟩
abbrev S2x24 : Shape := ⟨2, ![2, 24]⟩
abbrev S96 : Shape := ⟨1, ![96]⟩
abbrev S_ : Shape := ⟨0, ![]⟩
abbrev S2048 : Shape := ⟨1, ![2048]⟩
abbrev S1x2048 : Shape := ⟨2, ![1, 2048]⟩
abbrev S800x256 : Shape := ⟨2, ![800, 256]⟩
abbrev S1792x256 : Shape := ⟨2, ![1792, 256]⟩
abbrev S1024x400 : Shape := ⟨2, ![1024, 400]⟩
abbrev S1024x300 : Shape := ⟨2, ![1024, 300]⟩
abbrev S1024x1 : Shape := ⟨2, ![1024, 1]⟩
abbrev S1x96 : Shape := ⟨2, ![1, 96]⟩
abbrev S1x32 : Shape := ⟨2, ![1, 32]⟩
abbrev S1x64 : Shape := ⟨2, ![1, 64]⟩
abbrev S1x256 : Shape := ⟨2, ![1, 256]⟩
abbrev S96x800 : Shape := ⟨2, ![96, 800]⟩
abbrev S1x800 : Shape := ⟨2, ![1, 800]⟩
abbrev S32x800 : Shape := ⟨2, ![32, 800]⟩
abbrev S25x800 : Shape := ⟨2, ![25, 800]⟩
abbrev S25x64 : Shape := ⟨2, ![25, 64]⟩
abbrev S64x256 : Shape := ⟨2, ![64, 256]⟩
abbrev S25x256 : Shape := ⟨2, ![25, 256]⟩
abbrev S400x256 : Shape := ⟨2, ![400, 256]⟩
abbrev S300x256 : Shape := ⟨2, ![300, 256]⟩
abbrev S1024 : Shape := ⟨1, ![1024]⟩
abbrev S1x1 : Shape := ⟨2, ![1, 1]⟩

abbrev nBuf : Space → Nat
  | .hbm => 102
  | .vmem => 6
  | .smem => 0
  | _ => 0

abbrev bufTy : (tb : Table) → Fin (tcTables nBuf tb) → BufTy
  | .hbm, ⟨0, _⟩ => ⟨S1024x16x25, .f32⟩
  | .hbm, ⟨1, _⟩ => ⟨S1024x12x25, .f32⟩
  | .hbm, ⟨2, _⟩ => ⟨S32x1x3, .f32⟩
  | .hbm, ⟨3, _⟩ => ⟨S32, .f32⟩
  | .hbm, ⟨4, _⟩ => ⟨S32x1x3, .f32⟩
  | .hbm, ⟨5, _⟩ => ⟨S32, .f32⟩
  | .hbm, ⟨6, _⟩ => ⟨S800x64, .f32⟩
  | .hbm, ⟨7, _⟩ => ⟨S800x64, .f32⟩
  | .hbm, ⟨8, _⟩ => ⟨S64, .f32⟩
  | .hbm, ⟨9, _⟩ => ⟨S800x64, .f32⟩
  | .hbm, ⟨10, _⟩ => ⟨S800x64, .f32⟩
  | .hbm, ⟨11, _⟩ => ⟨S64, .f32⟩
  | .hbm, ⟨12, _⟩ => ⟨S1024x256, .f32⟩
  | .hbm, ⟨13, _⟩ => ⟨S256, .f32⟩
  | .hbm, ⟨14, _⟩ => ⟨S768x256, .f32⟩
  | .hbm, ⟨15, _⟩ => ⟨S256, .f32⟩
  | .hbm, ⟨16, _⟩ => ⟨S256x1, .f32⟩
  | .hbm, ⟨17, _⟩ => ⟨S1, .f32⟩
  | .hbm, ⟨18, _⟩ => ⟨S256x1, .f32⟩
  | .hbm, ⟨19, _⟩ => ⟨S1, .f32⟩
  | .hbm, ⟨20, _⟩ => ⟨S2x32, .i32⟩
  | .hbm, ⟨21, _⟩ => ⟨S2x24, .i32⟩
  | .hbm, ⟨22, _⟩ => ⟨S96, .f32⟩
  | .hbm, ⟨23, _⟩ => ⟨S96, .f32⟩
  | .hbm, ⟨24, _⟩ => ⟨S256, .f32⟩
  | .hbm, ⟨25, _⟩ => ⟨S256, .f32⟩
  | .hbm, ⟨26, _⟩ => ⟨S_, .f32⟩
  | .hbm, ⟨27, _⟩ => ⟨S2048, .f32⟩
  | .hbm, ⟨28, _⟩ => ⟨S_, .i32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .i32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .i32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S_, .i32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S_, .i32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S_, .i32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S_, .i32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S_, .i32⟩
  | .hbm, ⟨57, _⟩ => ⟨S_, .f32⟩
  | .hbm, ⟨58, _⟩ => ⟨S2048, .f32⟩
  | .hbm, ⟨59, _⟩ => ⟨S2048, .f32⟩
  | .hbm, ⟨60, _⟩ => ⟨S_, .i32⟩
  | .hbm, ⟨61, _⟩ => ⟨S_, .f32⟩
  | .hbm, ⟨62, _⟩ => ⟨S2048, .f32⟩
  | .hbm, ⟨63, _⟩ => ⟨S2048, .f32⟩
  | .hbm, ⟨64, _⟩ => ⟨S_, .i32⟩
  | .hbm, ⟨65, _⟩ => ⟨S_, .f32⟩
  | .hbm, ⟨66, _⟩ => ⟨S2048, .f32⟩
  | .hbm, ⟨67, _⟩ => ⟨S2048, .f32⟩
  | .hbm, ⟨68, _⟩ => ⟨S_, .i32⟩
  | .hbm, ⟨69, _⟩ => ⟨S_, .f32⟩
  | .hbm, ⟨70, _⟩ => ⟨S2048, .f32⟩
  | .hbm, ⟨71, _⟩ => ⟨S2048, .f32⟩
  | .hbm, ⟨72, _⟩ => ⟨S_, .i32⟩
  | .hbm, ⟨73, _⟩ => ⟨S_, .f32⟩
  | .hbm, ⟨74, _⟩ => ⟨S2048, .f32⟩
  | .hbm, ⟨75, _⟩ => ⟨S2048, .f32⟩
  | .hbm, ⟨76, _⟩ => ⟨S1x2048, .f32⟩
  | .hbm, ⟨77, _⟩ => ⟨S_, .i32⟩
  | .hbm, ⟨78, _⟩ => ⟨S_, .f32⟩
  | .hbm, ⟨79, _⟩ => ⟨S800x256, .f32⟩
  | .hbm, ⟨80, _⟩ => ⟨S_, .i32⟩
  | .hbm, ⟨81, _⟩ => ⟨S_, .f32⟩
  | .hbm, ⟨82, _⟩ => ⟨S800x256, .f32⟩
  | .hbm, ⟨83, _⟩ => ⟨S800x256, .f32⟩
  | .hbm, ⟨84, _⟩ => ⟨S_, .i32⟩
  | .hbm, ⟨85, _⟩ => ⟨S_, .f32⟩
  | .hbm, ⟨86, _⟩ => ⟨S800x256, .f32⟩
  | .hbm, ⟨87, _⟩ => ⟨S800x256, .f32⟩
  | .hbm, ⟨88, _⟩ => ⟨S_, .i32⟩
  | .hbm, ⟨89, _⟩ => ⟨S_, .f32⟩
  | .hbm, ⟨90, _⟩ => ⟨S800x256, .f32⟩
  | .hbm, ⟨91, _⟩ => ⟨S800x256, .f32⟩
  | .hbm, ⟨92, _⟩ => ⟨S_, .i32⟩
  | .hbm, ⟨93, _⟩ => ⟨S_, .f32⟩
  | .hbm, ⟨94, _⟩ => ⟨S1792x256, .f32⟩
  | .hbm, ⟨95, _⟩ => ⟨S_, .i32⟩
  | .hbm, ⟨96, _⟩ => ⟨S_, .f32⟩
  | .hbm, ⟨97, _⟩ => ⟨S1792x256, .f32⟩
  | .hbm, ⟨98, _⟩ => ⟨S1792x256, .f32⟩
  | .hbm, ⟨99, _⟩ => ⟨S1024x400, .f32⟩
  | .hbm, ⟨100, _⟩ => ⟨S1024x300, .f32⟩
  | .hbm, ⟨101, _⟩ => ⟨S1024x1, .f32⟩
  | .local _ .vmem, ⟨0, _⟩ => ⟨S1024x400, .f32⟩
  | .local _ .vmem, ⟨1, _⟩ => ⟨S1024x300, .f32⟩
  | .local _ .vmem, ⟨2, _⟩ => ⟨S1x2048, .f32⟩
  | .local _ .vmem, ⟨3, _⟩ => ⟨S800x256, .f32⟩
  | .local _ .vmem, ⟨4, _⟩ => ⟨S1792x256, .f32⟩
  | .local _ .vmem, ⟨5, _⟩ => ⟨S1024x1, .f32⟩
  | _, _ => ⟨S1024x16x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_c : Ref sig .tc := ⟨.hbm, 28, rfl⟩
abbrev main_call0_v0 : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_call1_v0 : Ref sig .tc := ⟨.hbm, 33, rfl⟩
abbrev main_v7 : Ref sig .tc := ⟨.hbm, 34, rfl⟩
abbrev main_v8 : Ref sig .tc := ⟨.hbm, 35, rfl⟩
abbrev main_c_1 : Ref sig .tc := ⟨.hbm, 36, rfl⟩
abbrev main_call2_v0 : Ref sig .tc := ⟨.hbm, 37, rfl⟩
abbrev main_v9 : Ref sig .tc := ⟨.hbm, 38, rfl⟩
abbrev main_v10 : Ref sig .tc := ⟨.hbm, 39, rfl⟩
abbrev main_c_2 : Ref sig .tc := ⟨.hbm, 40, rfl⟩
abbrev main_call3_v0 : Ref sig .tc := ⟨.hbm, 41, rfl⟩
abbrev main_v11 : Ref sig .tc := ⟨.hbm, 42, rfl⟩
abbrev main_v12 : Ref sig .tc := ⟨.hbm, 43, rfl⟩
abbrev main_c_3 : Ref sig .tc := ⟨.hbm, 44, rfl⟩
abbrev main_call4_v0 : Ref sig .tc := ⟨.hbm, 45, rfl⟩
abbrev main_v13 : Ref sig .tc := ⟨.hbm, 46, rfl⟩
abbrev main_v14 : Ref sig .tc := ⟨.hbm, 47, rfl⟩
abbrev main_c_4 : Ref sig .tc := ⟨.hbm, 48, rfl⟩
abbrev main_call5_v0 : Ref sig .tc := ⟨.hbm, 49, rfl⟩
abbrev main_v15 : Ref sig .tc := ⟨.hbm, 50, rfl⟩
abbrev main_v16 : Ref sig .tc := ⟨.hbm, 51, rfl⟩
abbrev main_c_5 : Ref sig .tc := ⟨.hbm, 52, rfl⟩
abbrev main_call6_v0 : Ref sig .tc := ⟨.hbm, 53, rfl⟩
abbrev main_v17 : Ref sig .tc := ⟨.hbm, 54, rfl⟩
abbrev main_v18 : Ref sig .tc := ⟨.hbm, 55, rfl⟩
abbrev main_c_6 : Ref sig .tc := ⟨.hbm, 56, rfl⟩
abbrev main_call7_v0 : Ref sig .tc := ⟨.hbm, 57, rfl⟩
abbrev main_v19 : Ref sig .tc := ⟨.hbm, 58, rfl⟩
abbrev main_v20 : Ref sig .tc := ⟨.hbm, 59, rfl⟩
abbrev main_c_7 : Ref sig .tc := ⟨.hbm, 60, rfl⟩
abbrev main_call8_v0 : Ref sig .tc := ⟨.hbm, 61, rfl⟩
abbrev main_v21 : Ref sig .tc := ⟨.hbm, 62, rfl⟩
abbrev main_v22 : Ref sig .tc := ⟨.hbm, 63, rfl⟩
abbrev main_c_8 : Ref sig .tc := ⟨.hbm, 64, rfl⟩
abbrev main_call9_v0 : Ref sig .tc := ⟨.hbm, 65, rfl⟩
abbrev main_v23 : Ref sig .tc := ⟨.hbm, 66, rfl⟩
abbrev main_v24 : Ref sig .tc := ⟨.hbm, 67, rfl⟩
abbrev main_c_9 : Ref sig .tc := ⟨.hbm, 68, rfl⟩
abbrev main_call10_v0 : Ref sig .tc := ⟨.hbm, 69, rfl⟩
abbrev main_v25 : Ref sig .tc := ⟨.hbm, 70, rfl⟩
abbrev main_v26 : Ref sig .tc := ⟨.hbm, 71, rfl⟩
abbrev main_c_10 : Ref sig .tc := ⟨.hbm, 72, rfl⟩
abbrev main_call11_v0 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_c_11 : Ref sig .tc := ⟨.hbm, 77, rfl⟩
abbrev main_call12_v0 : Ref sig .tc := ⟨.hbm, 78, rfl⟩
abbrev main_v30 : Ref sig .tc := ⟨.hbm, 79, rfl⟩
abbrev main_c_12 : Ref sig .tc := ⟨.hbm, 80, rfl⟩
abbrev main_call13_v0 : Ref sig .tc := ⟨.hbm, 81, rfl⟩
abbrev main_v31 : Ref sig .tc := ⟨.hbm, 82, rfl⟩
abbrev main_v32 : Ref sig .tc := ⟨.hbm, 83, rfl⟩
abbrev main_c_13 : Ref sig .tc := ⟨.hbm, 84, rfl⟩
abbrev main_call14_v0 : Ref sig .tc := ⟨.hbm, 85, rfl⟩
abbrev main_v33 : Ref sig .tc := ⟨.hbm, 86, rfl⟩
abbrev main_v34 : Ref sig .tc := ⟨.hbm, 87, rfl⟩
abbrev main_c_14 : Ref sig .tc := ⟨.hbm, 88, rfl⟩
abbrev main_call15_v0 : Ref sig .tc := ⟨.hbm, 89, rfl⟩
abbrev main_v35 : Ref sig .tc := ⟨.hbm, 90, rfl⟩
abbrev main_v36 : Ref sig .tc := ⟨.hbm, 91, rfl⟩
abbrev main_c_15 : Ref sig .tc := ⟨.hbm, 92, rfl⟩
abbrev main_call16_v0 : Ref sig .tc := ⟨.hbm, 93, rfl⟩
abbrev main_v37 : Ref sig .tc := ⟨.hbm, 94, rfl⟩
abbrev main_c_16 : Ref sig .tc := ⟨.hbm, 95, rfl⟩
abbrev main_call17_v0 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1024x400 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S800x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x16x25 : Shape := ⟨3, ![1024, 16, 25]⟩
abbrev S1024x12x25 : Shape := ⟨3, ![1024, 12, 25]⟩
abbrev S32x1x3 : Shape := ⟨3, ![32, 1, 3]⟩
abbrev S32 : Shape := ⟨1, ![32]⟩
abbrev S800x64 : Shape := ⟨2, ![800, 64]⟩
abbrev S64 : Shape := ⟨1, ![64]⟩
abbrev S1024x256 : Shape := ⟨2, ![1024, 256]⟩
abbrev S256 : Shape := ⟨1, ![256]⟩
abbrev S768x256 : Shape := ⟨2, ![768, 256]⟩
abbrev S256x1 : Shape := ⟨2, ![256, 1]⟩
abbrev S1 : Shape := ⟨1, ![1]⟩
abbrev S2x32 : Shape := ⟨2, ![2, 32]⟩
abbrev S2x24 : Shape := ⟨2, ![2, 24]⟩
abbrev S16384x25 : Shape := ⟨2, ![16384, 25]⟩
abbrev S_ : Shape := ⟨0, ![]⟩
abbrev S16384x27 : Shape := ⟨2, ![16384, 27]⟩
abbrev S16384x1x25 : Shape := ⟨3, ![16384, 1, 25]⟩
abbrev S32x1x1 : Shape := ⟨3, ![32, 1, 1]⟩
abbrev S32x1 : Shape := ⟨2, ![32, 1]⟩
abbrev S1x32x1 : Shape := ⟨3, ![1, 32, 1]⟩
abbrev S16384x32x25 : Shape := ⟨3, ![16384, 32, 25]⟩
abbrev S1024x16x800 : Shape := ⟨3, ![1024, 16, 800]⟩
abbrev S1x32 : Shape := ⟨2, ![1, 32]⟩
abbrev S16 : Shape := ⟨1, ![16]⟩
abbrev S1024x32x800 : Shape := ⟨3, ![1024, 32, 800]⟩
abbrev S16x800 : Shape := ⟨2, ![16, 800]⟩
abbrev S1024x16x64 : Shape := ⟨3, ![1024, 16, 64]⟩
abbrev S1x64 : Shape := ⟨2, ![1, 64]⟩
abbrev S1x1x64 : Shape := ⟨3, ![1, 1, 64]⟩
abbrev S12288x25 : Shape := ⟨2, ![12288, 25]⟩
abbrev S12288x27 : Shape := ⟨2, ![12288, 27]⟩
abbrev S12288x1x25 : Shape := ⟨3, ![12288, 1, 25]⟩
abbrev S12288x32x25 : Shape := ⟨3, ![12288, 32, 25]⟩
abbrev S1024x12x800 : Shape := ⟨3, ![1024, 12, 800]⟩
abbrev S1x24 : Shape := ⟨2, ![1, 24]⟩
abbrev S24 : Shape := ⟨1, ![24]⟩
abbrev S12 : Shape := ⟨1, ![12]⟩
abbrev S24x1 : Shape := ⟨2, ![24, 1]⟩
abbrev S1024x24x800 : Shape := ⟨3, ![1024, 24, 800]⟩
abbrev S1x24x1 : Shape := ⟨3, ![1, 24, 1]⟩
abbrev S12x800 : Shape := ⟨2, ![12, 800]⟩
abbrev S1024x12x64 : Shape := ⟨3, ![1024, 12, 64]⟩
abbrev S1024x1024 : Shape := ⟨2, ![1024, 1024]⟩
abbrev S1x256 : Shape := ⟨2, ![1, 256]⟩
abbrev S1024x768 : Shape := ⟨2, ![1024, 768]⟩
abbrev S1024x1 : Shape := ⟨2, ![1024, 1]⟩
abbrev S1x1 : Shape := ⟨2, ![1, 1]⟩

abbrev nBuf : Space → Nat
  | .hbm => 299
  | .vmem => 0
  | .smem => 0
  | _ => 0

abbrev hbmTy0_0 (i : Nat) : BufTy := match i % 128 with
  | 0 => ⟨S1024x16x25, .f32⟩
  | 1 => ⟨S1024x12x25, .f32⟩
  | 2 => ⟨S32x1x3, .f32⟩
  | 3 => ⟨S32, .f32⟩
  | 4 => ⟨S32x1x3, .f32⟩
  | 5 => ⟨S32, .f32⟩
  | 6 => ⟨S800x64, .f32⟩
  | 7 => ⟨S800x64, .f32⟩
  | 8 => ⟨S64, .f32⟩
  | 9 => ⟨S800x64, .f32⟩
  | 10 => ⟨S800x64, .f32⟩
  | 11 => ⟨S64, .f32⟩
  | 12 => ⟨S1024x256, .f32⟩
  | 13 => ⟨S256, .f32⟩
  | 14 => ⟨S768x256, .f32⟩
  | 15 => ⟨S256, .f32⟩
  | 16 => ⟨S256x1, .f32⟩
  | 17 => ⟨S1, .f32⟩
  | 18 => ⟨S256x1, .f32⟩
  | 19 => ⟨S1, .f32⟩
  | 20 => ⟨S2x32, .i32⟩
  | 21 => ⟨S2x24, .i32⟩
  | 22 => ⟨S16384x25, .f32⟩
  | 23 => ⟨S_, .i32⟩
  | 24 => ⟨S_, .f32⟩
  | 25 => ⟨S16384x27, .f32⟩
  | 26 => ⟨S16384x25, .f32⟩
  | 27 => ⟨S16384x1x25, .f32⟩
  | 28 => ⟨S32x1x1, .f32⟩
  | 29 => ⟨S32x1, .f32⟩
  | 30 => ⟨S1x32x1, .f32⟩
  | 31 => ⟨S16384x32x25, .f32⟩
  | 32 => ⟨S16384x32x25, .f32⟩
  | 33 => ⟨S16384x32x25, .f32⟩
  | 34 => ⟨S16384x25, .f32⟩
  | 35 => ⟨S16384x1x25, .f32⟩
  | 36 => ⟨S32x1x1, .f32⟩
  | 37 => ⟨S32x1, .f32⟩
  | 38 => ⟨S1x32x1, .f32⟩
  | 39 => ⟨S16384x32x25, .f32⟩
  | 40 => ⟨S16384x32x25, .f32⟩
  | 41 => ⟨S16384x32x25, .f32⟩
  | 42 => ⟨S16384x32x25, .f32⟩
  | 43 => ⟨S16384x25, .f32⟩
  | 44 => ⟨S16384x1x25, .f32⟩
  | 45 => ⟨S32x1x1, .f32⟩
  | 46 => ⟨S32x1, .f32⟩
  | 47 => ⟨S1x32x1, .f32⟩
  | 48 => ⟨S16384x32x25, .f32⟩
  | 49 => ⟨S16384x32x25, .f32⟩
  | 50 => ⟨S16384x32x25, .f32⟩
  | 51 => ⟨S16384x32x25, .f32⟩
  | 52 => ⟨S1x32x1, .f32⟩
  | 53 => ⟨S16384x32x25, .f32⟩
  | 54 => ⟨S16384x32x25, .f32⟩
  | 55 => ⟨S1024x16x800, .f32⟩
  | 56 => ⟨S1x32, .i32⟩
  | 57 => ⟨S32, .i32⟩
  | 58 => ⟨S1x32, .i32⟩
  | 59 => ⟨S32, .i32⟩
  | 60 => ⟨S_, .f32⟩
  | 61 => ⟨S32, .f32⟩
  | 62 => ⟨S_, .f32⟩
  | 63 => ⟨S16, .f32⟩
  | 64 => ⟨S_, .i32⟩
  | 65 => ⟨S32, .i32⟩
  | 66 => ⟨S32, .i1⟩
  | 67 => ⟨S_, .i32⟩
  | 68 => ⟨S32, .i32⟩
  | 69 => ⟨S32, .i32⟩
  | 70 => ⟨S32, .i32⟩
  | 71 => ⟨S32x1, .i32⟩
  | 72 => ⟨S16, .f32⟩
  | 73 => ⟨S_, .f32⟩
  | 74 => ⟨S16, .f32⟩
  | 75 => ⟨S16, .i1⟩
  | 76 => ⟨S16, .f32⟩
  | 77 => ⟨S_, .f32⟩
  | 78 => ⟨S16, .f32⟩
  | 79 => ⟨S16, .f32⟩
  | 80 => ⟨S_, .f32⟩
  | 81 => ⟨S_, .f32⟩
  | 82 => ⟨S16, .f32⟩
  | 83 => ⟨S16, .f32⟩
  | 84 => ⟨S_, .i32⟩
  | 85 => ⟨S32, .i32⟩
  | 86 => ⟨S32, .i1⟩
  | 87 => ⟨S_, .i32⟩
  | 88 => ⟨S32, .i32⟩
  | 89 => ⟨S32, .i32⟩
  | 90 => ⟨S32, .i32⟩
  | 91 => ⟨S32x1, .i32⟩
  | 92 => ⟨S32, .f32⟩
  | 93 => ⟨S32, .f32⟩
  | 94 => ⟨S32, .f32⟩
  | 95 => ⟨S_, .i32⟩
  | 96 => ⟨S32, .i32⟩
  | 97 => ⟨S32, .i1⟩
  | 98 => ⟨S_, .i32⟩
  | 99 => ⟨S32, .i32⟩
  | 100 => ⟨S32, .i32⟩
  | 101 => ⟨S32, .i32⟩
  | 102 => ⟨S32x1, .i32⟩
  | 103 => ⟨S32, .f32⟩
  | 104 => ⟨S32, .f32⟩
  | 105 => ⟨S_, .i32⟩
  | 106 => ⟨S32, .i32⟩
  | 107 => ⟨S32, .i1⟩
  | 108 => ⟨S_, .i32⟩
  | 109 => ⟨S32, .i32⟩
  | 110 => ⟨S32, .i32⟩
  | 111 => ⟨S32, .i32⟩
  | 112 => ⟨S32x1, .i32⟩
  | 113 => ⟨S1024x32x800, .f32⟩
  | 114 => ⟨S32x1, .f32⟩
  | 115 => ⟨S1x32x1, .f32⟩
  | 116 => ⟨S1024x32x800, .f32⟩
  | 117 => ⟨S1024x32x800, .f32⟩
  | 118 => ⟨S_, .f32⟩
  | 119 => ⟨S16x800, .f32⟩
  | 120 => ⟨S_, .i32⟩
  | 121 => ⟨S32, .i32⟩
  | 122 => ⟨S32, .i1⟩
  | 123 => ⟨S_, .i32⟩
  | 124 => ⟨S32, .i32⟩
  | 125 => ⟨S32, .i32⟩
  | 126 => ⟨S32, .i32⟩
  | 127 => ⟨S32x1, .i32⟩
  | _ => ⟨S1024x16x25, .f32⟩

abbrev hbmTy0_1 (i : Nat) : BufTy := match i % 128 with
  | 0 => ⟨S1024x16x800, .f32⟩
  | 1 => ⟨S1024x16x800, .f32⟩
  | 2 => ⟨S1024x16x64, .f32⟩
  | 3 => ⟨S1024x16x64, .f32⟩
  | 4 => ⟨S1024x16x64, .f32⟩
  | 5 => ⟨S1x64, .f32⟩
  | 6 => ⟨S1x1x64, .f32⟩
  | 7 => ⟨S1024x16x64, .f32⟩
  | 8 => ⟨S1024x16x64, .f32⟩
  | 9 => ⟨S12288x25, .f32⟩
  | 10 => ⟨S_, .i32⟩
  | 11 => ⟨S_, .f32⟩
  | 12 => ⟨S12288x27, .f32⟩
  | 13 => ⟨S12288x25, .f32⟩
  | 14 => ⟨S12288x1x25, .f32⟩
  | 15 => ⟨S32x1x1, .f32⟩
  | 16 => ⟨S32x1, .f32⟩
  | 17 => ⟨S1x32x1, .f32⟩
  | 18 => ⟨S12288x32x25, .f32⟩
  | 19 => ⟨S12288x32x25, .f32⟩
  | 20 => ⟨S12288x32x25, .f32⟩
  | 21 => ⟨S12288x25, .f32⟩
  | 22 => ⟨S12288x1x25, .f32⟩
  | 23 => ⟨S32x1x1, .f32⟩
  | 24 => ⟨S32x1, .f32⟩
  | 25 => ⟨S1x32x1, .f32⟩
  | 26 => ⟨S12288x32x25, .f32⟩
  | 27 => ⟨S12288x32x25, .f32⟩
  | 28 => ⟨S12288x32x25, .f32⟩
  | 29 => ⟨S12288x32x25, .f32⟩
  | 30 => ⟨S12288x25, .f32⟩
  | 31 => ⟨S12288x1x25, .f32⟩
  | 32 => ⟨S32x1x1, .f32⟩
  | 33 => ⟨S32x1, .f32⟩
  | 34 => ⟨S1x32x1, .f32⟩
  | 35 => ⟨S12288x32x25, .f32⟩
  | 36 => ⟨S12288x32x25, .f32⟩
  | 37 => ⟨S12288x32x25, .f32⟩
  | 38 => ⟨S12288x32x25, .f32⟩
  | 39 => ⟨S1x32x1, .f32⟩
  | 40 => ⟨S12288x32x25, .f32⟩
  | 41 => ⟨S12288x32x25, .f32⟩
  | 42 => ⟨S1024x12x800, .f32⟩
  | 43 => ⟨S1x24, .i32⟩
  | 44 => ⟨S24, .i32⟩
  | 45 => ⟨S1x24, .i32⟩
  | 46 => ⟨S24, .i32⟩
  | 47 => ⟨S_, .f32⟩
  | 48 => ⟨S24, .f32⟩
  | 49 => ⟨S_, .f32⟩
  | 50 => ⟨S12, .f32⟩
  | 51 => ⟨S_, .i32⟩
  | 52 => ⟨S24, .i32⟩
  | 53 => ⟨S24, .i1⟩
  | 54 => ⟨S_, .i32⟩
  | 55 => ⟨S24, .i32⟩
  | 56 => ⟨S24, .i32⟩
  | 57 => ⟨S24, .i32⟩
  | 58 => ⟨S24x1, .i32⟩
  | 59 => ⟨S12, .f32⟩
  | 60 => ⟨S_, .f32⟩
  | 61 => ⟨S12, .f32⟩
  | 62 => ⟨S12, .i1⟩
  | 63 => ⟨S12, .f32⟩
  | 64 => ⟨S_, .f32⟩
  | 65 => ⟨S12, .f32⟩
  | 66 => ⟨S12, .f32⟩
  | 67 => ⟨S_, .f32⟩
  | 68 => ⟨S_, .f32⟩
  | 69 => ⟨S12, .f32⟩
  | 70 => ⟨S12, .f32⟩
  | 71 => ⟨S_, .i32⟩
  | 72 => ⟨S24, .i32⟩
  | 73 => ⟨S24, .i1⟩
  | 74 => ⟨S_, .i32⟩
  | 75 => ⟨S24, .i32⟩
  | 76 => ⟨S24, .i32⟩
  | 77 => ⟨S24, .i32⟩
  | 78 => ⟨S24x1, .i32⟩
  | 79 => ⟨S24, .f32⟩
  | 80 => ⟨S24, .f32⟩
  | 81 => ⟨S24, .f32⟩
  | 82 => ⟨S_, .i32⟩
  | 83 => ⟨S24, .i32⟩
  | 84 => ⟨S24, .i1⟩
  | 85 => ⟨S_, .i32⟩
  | 86 => ⟨S24, .i32⟩
  | 87 => ⟨S24, .i32⟩
  | 88 => ⟨S24, .i32⟩
  | 89 => ⟨S24x1, .i32⟩
  | 90 => ⟨S24, .f32⟩
  | 91 => ⟨S24, .f32⟩
  | 92 => ⟨S_, .i32⟩
  | 93 => ⟨S24, .i32⟩
  | 94 => ⟨S24, .i1⟩
  | 95 => ⟨S_, .i32⟩
  | 96 => ⟨S24, .i32⟩
  | 97 => ⟨S24, .i32⟩
  | 98 => ⟨S24, .i32⟩
  | 99 => ⟨S24x1, .i32⟩
  | 100 => ⟨S1024x24x800, .f32⟩
  | 101 => ⟨S24x1, .f32⟩
  | 102 => ⟨S1x24x1, .f32⟩
  | 103 => ⟨S1024x24x800, .f32⟩
  | 104 => ⟨S1024x24x800, .f32⟩
  | 105 => ⟨S_, .f32⟩
  | 106 => ⟨S12x800, .f32⟩
  | 107 => ⟨S_, .i32⟩
  | 108 => ⟨S24, .i32⟩
  | 109 => ⟨S24, .i1⟩
  | 110 => ⟨S_, .i32⟩
  | 111 => ⟨S24, .i32⟩
  | 112 => ⟨S24, .i32⟩
  | 113 => ⟨S24, .i32⟩
  | 114 => ⟨S24x1, .i32⟩
  | 115 => ⟨S1024x12x800, .f32⟩
  | 116 => ⟨S1024x12x800, .f32⟩
  | 117 => ⟨S1024x12x64, .f32⟩
  | 118 => ⟨S1024x12x64, .f32⟩
  | 119 => ⟨S1024x12x64, .f32⟩
  | 120 => ⟨S1x64, .f32⟩
  | 121 => ⟨S1x1x64, .f32⟩
  | 122 => ⟨S1024x12x64, .f32⟩
  | 123 => ⟨S1024x12x64, .f32⟩
  | 124 => ⟨S1024x1024, .f32⟩
  | 125 => ⟨S1024x256, .f32⟩
  | 126 => ⟨S1x256, .f32⟩
  | 127 => ⟨S1024x256, .f32⟩
  | _ => ⟨S1024x16x25, .f32⟩

abbrev hbmTy0_2 (i : Nat) : BufTy := match i % 128 with
  | 0 => ⟨S1024x256, .f32⟩
  | 1 => ⟨S1024x768, .f32⟩
  | 2 => ⟨S1024x256, .f32⟩
  | 3 => ⟨S1x256, .f32⟩
  | 4 => ⟨S1024x256, .f32⟩
  | 5 => ⟨S1024x256, .f32⟩
  | 6 => ⟨S1024x256, .f32⟩
  | 7 => ⟨S1024x256, .f32⟩
  | 8 => ⟨S1024x1, .f32⟩
  | 9 => ⟨S1x1, .f32⟩
  | 10 => ⟨S1024x1, .f32⟩
  | 11 => ⟨S1024x1, .f32⟩
  | 12 => ⟨S1024x1, .f32⟩
  | 13 => ⟨S1024x1, .f32⟩
  | 14 => ⟨S_, .f32⟩
  | 15 => ⟨S1024x1, .f32⟩
  | 16 => ⟨S1024x1, .f32⟩
  | 17 => ⟨S_, .f32⟩
  | 18 => ⟨S1024x1, .f32⟩
  | 19 => ⟨S1024x1, .f32⟩
  | 20 => ⟨S1024x256, .f32⟩
  | 21 => ⟨S1024x256, .f32⟩
  | 22 => ⟨S_, .f32⟩
  | 23 => ⟨S1024x1, .f32⟩
  | 24 => ⟨S1024x1, .f32⟩
  | 25 => ⟨S1024x256, .f32⟩
  | 26 => ⟨S1024x256, .f32⟩
  | 27 => ⟨S1024x256, .f32⟩
  | 28 => ⟨S_, .f32⟩
  | 29 => ⟨S1024x256, .f32⟩
  | 30 => ⟨S1024x256, .f32⟩
  | 31 => ⟨S1024x1, .f32⟩
  | 32 => ⟨S1x1, .f32⟩
  | 33 => ⟨S1024x1, .f32⟩
  | 34 => ⟨S1024x1, .f32⟩
  | 35 => ⟨S1024x1, .f32⟩
  | 36 => ⟨S1024x1, .f32⟩
  | 37 => ⟨S_, .f32⟩
  | 38 => ⟨S1024x1, .f32⟩
  | 39 => ⟨S1024x1, .f32⟩
  | 40 => ⟨S_, .f32⟩
  | 41 => ⟨S1024x1, .f32⟩
  | 42 => ⟨S1024x1, .f32⟩
  | _ => ⟨S1024x16x25, .f32⟩

abbrev hbmTy (i : Nat) : BufTy := match i / 128 with
  | 0 => hbmTy0_0 i
  | 1 => hbmTy0_1 i
  | 2 => hbmTy0_2 i
  | _ => ⟨S1024x16x25, .f32⟩

abbrev bufTy : (tb : Table) → Fin (tcTables nBuf tb) → BufTy
  | .hbm, ⟨i, _⟩ => hbmTy i
  | _, _ => ⟨S1024x16x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_call0_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst : Ref sig .tc := ⟨.hbm, 60, rfl⟩
abbrev main_v36 : Ref sig .tc := ⟨.hbm, 61, rfl⟩
abbrev main_cst_0 : Ref sig .tc := ⟨.hbm, 62, rfl⟩
abbrev main_v37 : Ref sig .tc := ⟨.hbm, 63, rfl⟩
abbrev main_c_1 : Ref sig .tc := ⟨.hbm, 64, rfl⟩
abbrev main_v38 : Ref sig .tc := ⟨.hbm, 65, rfl⟩
abbrev main_v39 : Ref sig .tc := ⟨.hbm, 66, rfl⟩
abbrev main_c_2 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_3 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_4 : Ref sig .tc := ⟨.hbm, 77, rfl⟩
abbrev main_v48 : Ref sig .tc := ⟨.hbm, 78, rfl⟩
abbrev main_v49 : Ref sig .tc := ⟨.hbm, 79, rfl⟩
abbrev main_cst_5 : Ref sig .tc := ⟨.hbm, 80, rfl⟩
abbrev main_call1_v0 : Ref sig .tc := ⟨.hbm, 81, rfl⟩
abbrev main_call1_v1 : Ref sig .tc := ⟨.hbm, 82, rfl⟩
abbrev main_v50 : Ref sig .tc := ⟨.hbm, 83, rfl⟩
abbrev main_c_6 : Ref sig .tc := ⟨.hbm, 84, rfl⟩
abbrev main_v51 : Ref sig .tc := ⟨.hbm, 85, rfl⟩
abbrev main_v52 : Ref sig .tc := ⟨.hbm, 86, rfl⟩
abbrev main_c_7 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_8 : Ref sig .tc := ⟨.hbm, 95, rfl⟩
abbrev main_v60 : Ref sig .tc := ⟨.hbm, 96, rfl⟩
abbrev main_v61 : Ref sig .tc := ⟨.hbm, 97, rfl⟩
abbrev main_c_9 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_10 : Ref sig .tc := ⟨.hbm, 105, rfl⟩
abbrev main_v68 : Ref sig .tc := ⟨.hbm, 106, rfl⟩
abbrev main_v69 : Ref sig .tc := ⟨.hbm, 107, rfl⟩
abbrev main_c_11 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_12 : Ref sig .tc := ⟨.hbm, 118, rfl⟩
abbrev main_v79 : Ref sig .tc := ⟨.hbm, 119, rfl⟩
abbrev main_c_13 : Ref sig .tc := ⟨.hbm, 120, rfl⟩
abbrev main_v80 : Ref sig .tc := ⟨.hbm, 121, rfl⟩
abbrev main_v81 : Ref sig .tc := ⟨.hbm, 122, rfl⟩
abbrev main_c_14 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c_15 : Ref sig .tc := ⟨.hbm, 138, rfl⟩
abbrev main_call2_v0 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_16 : Ref sig .tc := ⟨.hbm, 175, rfl⟩
abbrev main_v131 : Ref sig .tc := ⟨.hbm, 176, rfl⟩
abbrev main_cst_17 : Ref sig .tc := ⟨.hbm, 177, rfl⟩
abbrev main_v132 : Ref sig .tc := ⟨.hbm, 178, rfl⟩
abbrev main_c_18 : Ref sig .tc := ⟨.hbm, 179, rfl⟩
abbrev main_v133 : Ref sig .tc := ⟨.hbm, 180, rfl⟩
abbrev main_v134 : Ref sig .tc := ⟨.hbm, 181, rfl⟩
abbrev main_c_19 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_20 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_21 : Ref sig .tc := ⟨.hbm, 192, rfl⟩
abbrev main_v143 : Ref sig .tc := ⟨.hbm, 193, rfl⟩
abbrev main_v144 : Ref sig .tc := ⟨.hbm, 194, rfl⟩
abbrev main_cst_22 : Ref sig .tc := ⟨.hbm, 195, rfl⟩
abbrev main_call3_v0 : Ref sig .tc := ⟨.hbm, 196, rfl⟩
abbrev main_call3_v1 : Ref sig .tc := ⟨.hbm, 197, rfl⟩
abbrev main_v145 : Ref sig .tc := ⟨.hbm, 198, rfl⟩
abbrev main_c_23 : Ref sig .tc := ⟨.hbm, 199, rfl⟩
abbrev main_v146 : Ref sig .tc := ⟨.hbm, 200, rfl⟩
abbrev main_v147 : Ref sig .tc := ⟨.hbm, 201, rfl⟩
abbrev main_c_24 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_c_25 : Ref sig .tc := ⟨.hbm, 210, rfl⟩
abbrev main_v155 : Ref sig .tc := ⟨.hbm, 211, rfl⟩
abbrev main_v156 : Ref sig .tc := ⟨.hbm, 212, rfl⟩
abbrev main_c_26 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_c_27 : Ref sig .tc := ⟨.hbm, 220, rfl⟩
abbrev main_v163 : Ref sig .tc := ⟨.hbm, 221, rfl⟩
abbrev main_v164 : Ref sig .tc := ⟨.hbm, 222, rfl⟩
abbrev main_c_28 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_cst_29 : Ref sig .tc := ⟨.hbm, 233, rfl⟩
abbrev main_v174 : Ref sig .tc := ⟨.hbm, 234, rfl⟩
abbrev main_c_30 : Ref sig .tc := ⟨.hbm, 235, rfl⟩
abbrev main_v175 : Ref sig .tc := ⟨.hbm, 236, rfl⟩
abbrev main_v176 : Ref sig .tc := ⟨.hbm, 237, rfl⟩
abbrev main_c_31 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_cst_32 : Ref sig .tc := ⟨.hbm, 270, rfl⟩
abbrev main_v208 : Ref sig .tc := ⟨.hbm, 271, rfl⟩
abbrev main_v209 : Ref sig .tc := ⟨.hbm, 272, rfl⟩
abbrev main_cst_33 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_cst_34 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_call4_cst : Ref sig .tc := ⟨.hbm, 284, rfl⟩
abbrev main_call4_v0 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_cst_35 : Ref sig .tc := ⟨.hbm, 293, rfl⟩
abbrev main_v226 : Ref sig .tc := ⟨.hbm, 294, rfl⟩
abbrev main_v227 : Ref sig .tc := ⟨.hbm, 295, rfl⟩
abbrev main_cst_36 : Ref sig .tc := ⟨.hbm, 296, rfl⟩
abbrev main_v228 : Ref sig .tc := ⟨.hbm, 297, rfl⟩
abbrev main_v229 : Ref sig .tc := ⟨.hbm, 298, rfl⟩

abbrev nD : Nat := 1
abbrev τ : Topo := Topo.v7x

variable {F : FTy → Type} [FloatOps F]
-- ==== Proof.RealModel.lean ====
/- The real-number identity behind the kernel's folding.

   The reference convolves every node's signal, passes the features round the ring once, and
   projects. Each of these maps is linear, so the kernel folds them into one matrix per branch and
   multiplies the raw signal by it. This file states both sides over the reals, for any finite set
   of nodes with a permutation `s` that sends a node to its successor on the ring, and proves them equal. -/
module

public import Idealize.ShloMosaic.Lib.Pointwise

@[expose] public section

noncomputable section

namespace Cert.RealModel

open Finset

variable {V T Fe O : Type} [Fintype V] [Fintype T] [Fintype Fe] [Fintype O]

/-- The features of node `v`: its signal through the convolution matrix `C`, plus the bias row. -/
def feat (x : V → T → ℝ) (C : T → Fe → ℝ) (b : Fe → ℝ) (v : V) (f : Fe) : ℝ := (∑ t, x v t * C t f) + b f

/-- One output of the graph convolution at node `v`: the node's own features through `W0`, minus half the
    sum of its two neighbours' features through `W1`, plus the bias. -/
def gcn (s : Equiv.Perm V) (e : V → Fe → ℝ) (W0 W1 : Fe → O → ℝ) (gb : O → ℝ) (v : V) (o : O) : ℝ :=
  (∑ f, e v f * W0 f o) + (∑ f, (-(1 / 2) * (e (s.symm v) f + e (s v) f)) * W1 f o) + gb o

/-- The folded block of node `v`: signal position `t` to one output column whose projection weights are `P`. -/
def block (s : Equiv.Perm V) (C : T → Fe → ℝ) (W0 W1 : Fe → O → ℝ) (P : V → O → ℝ) (v : V) (t : T) : ℝ :=
  (∑ o, (∑ f, C t f * W0 f o) * P v o)
    - (1 / 2) * (∑ o, (∑ f, C t f * W1 f o) * (P (s.symm v) o + P (s v) o))

/-- The folded constant: what the biases contribute to one output column. -/
def const (b : Fe → ℝ) (W0 W1 : Fe → O → ℝ) (gb : O → ℝ) (P : V → O → ℝ) : ℝ :=
  ∑ o, ((∑ f, b f * (W0 f o - W1 f o)) + gb o) * ∑ v, P v o

/-- Features through a weight column: the signal through the product matrix, plus the bias through the column. -/
theorem feat_mul (x : V → T → ℝ) (C : T → Fe → ℝ) (b : Fe → ℝ) (W : Fe → O → ℝ) (v : V) (o : O) :
    ∑ f, feat x C b v f * W f o = (∑ t, x v t * ∑ f, C t f * W f o) + ∑ f, b f * W f o := by
  simp only [feat, add_mul, sum_add_distrib, sum_mul, mul_sum]
  rw [sum_comm]
  simp only [mul_assoc]

/-- The neighbour term by linearity. -/
theorem nbr_mul (s : Equiv.Perm V) (e : V → Fe → ℝ) (W : Fe → O → ℝ) (v : V) (o : O) :
    ∑ f, (-(1 / 2) * (e (s.symm v) f + e (s v) f)) * W f o
      = -(1 / 2) * ((∑ f, e (s.symm v) f * W f o) + ∑ f, e (s v) f * W f o) := by
  rw [← sum_add_distrib, mul_sum]
  exact sum_congr rfl fun f _ => by ring

/-- Moving the neighbour sum from the features to the weights: a sum over the whole ring does not
    change when every node is replaced by its successor. -/
theorem shift (s : Equiv.Perm V) (E P : V → ℝ) :
    ∑ v, (E (s.symm v) + E (s v)) * P v = ∑ v, E v * (P (s.symm v) + P (s v)) := by
  simp only [add_mul, mul_add, sum_add_distrib]
  rw [add_comm]
  congr 1
  · rw [← Equiv.sum_comp s fun v => E v * P (s.symm v)]; simp
  · rw [← Equiv.sum_comp s fun v => E (s.symm v) * P v]; simp

/-- The folding identity: convolution, graph convolution and projection, summed over nodes and channels,
    equal the raw signal through the folded blocks plus the folded constant. -/
theorem fold (s : Equiv.Perm V) (x : V → T → ℝ) (C : T → Fe → ℝ) (b : Fe → ℝ) (W0 W1 : Fe → O → ℝ) (gb : O → ℝ)
    (P : V → O → ℝ) :
    ∑ v, ∑ o, gcn s (feat x C b) W0 W1 gb v o * P v o
      = (∑ v, ∑ t, x v t * block s C W0 W1 P v t) + const b W0 W1 gb P := by
  have hl : ∀ o, ∑ v, gcn s (feat x C b) W0 W1 gb v o * P v o
      = (∑ v, ((∑ t, x v t * ∑ f, C t f * W0 f o) * P v o
          - (1 / 2) * ((∑ t, x v t * ∑ f, C t f * W1 f o) * (P (s.symm v) o + P (s v) o))))
        + ((∑ f, b f * (W0 f o - W1 f o)) + gb o) * ∑ v, P v o := by
    intro o
    have hs := shift s (fun v => ∑ t, x v t * ∑ f, C t f * W1 f o) (fun v => P v o)
    have hp : ∑ v, (P (s.symm v) o + P (s v) o) = 2 * ∑ v, P v o := by
      rw [sum_add_distrib, Equiv.sum_comp s fun v => P v o, Equiv.sum_comp s.symm fun v => P v o]; ring
    simp only [gcn, nbr_mul, feat_mul]
    rw [sum_sub_distrib, ← mul_sum, ← hs, mul_sum, mul_sum, ← sum_sub_distrib, ← sum_add_distrib]
    refine sum_congr rfl fun v _ => ?_
    simp only [mul_sub, sum_sub_distrib]
    ring
  rw [sum_comm]
  simp only [hl, sum_add_distrib, const]
  congr 1
  rw [sum_comm]
  refine sum_congr rfl fun v _ => ?_
  simp only [block, sum_sub_distrib, mul_sub, mul_sum, sum_mul]
  congr 1
  · rw [sum_comm]
    refine sum_congr rfl fun t _ => sum_congr rfl fun o _ => sum_congr rfl fun f _ => by ring
  · rw [sum_comm]
    refine sum_congr rfl fun t _ => sum_congr rfl fun o _ => sum_congr rfl fun f _ => by ring

/-! ## The convolution matrix of this kernel

A feature index `f` below 800 is channel `f / 25` at output position `f % 25`. -/

/-- The channel of a feature. -/
def chan (f : Fin 800) : Fin 32 := ⟨f.val / 25, by omega⟩

/-- The three-tap convolution with one zero on each side, as a matrix from the 25 signal positions to the 800
    features: tap `k` of the feature's channel where `t + 1 = f % 25 + k`. -/
def tap (w : Fin 32 → Fin 3 → ℝ) (t : Fin 25) (f : Fin 800) : ℝ :=
  (if t.val + 1 = f.val % 25 + 0 then w (chan f) 0 else 0) + (if t.val + 1 = f.val % 25 + 1 then w (chan f) 1 else 0)
    + (if t.val + 1 = f.val % 25 + 2 then w (chan f) 2 else 0)

/-- The signal `x` with zeros outside its 25 positions, read at position `j - 1` (so `j = 0` is the left zero). -/
def padded (x : Fin 25 → ℝ) (j : Nat) : ℝ := if h : 1 ≤ j ∧ j < 26 then x ⟨j - 1, by omega⟩ else 0

/-- One tap summed over the signal positions picks the padded signal. -/
theorem sum_tap (x : Fin 25 → ℝ) (j : Nat) (a : ℝ) :
    ∑ t : Fin 25, x t * (if t.val + 1 = j then a else 0) = padded x j * a := by
  unfold padded
  by_cases h : 1 ≤ j ∧ j < 26
  · rw [dif_pos h, sum_eq_single (⟨j - 1, by omega⟩ : Fin 25)]
    · rw [if_pos (by show j - 1 + 1 = j; omega)]
    · intro t _ ht
      rw [if_neg, mul_zero]
      intro e; exact ht (Fin.ext (by show t.val = j - 1; omega))
    · intro h'; exact absurd (mem_univ _) h'
  · rw [dif_neg h, zero_mul]
    refine sum_eq_zero fun t _ => ?_
    rw [if_neg, mul_zero]
    intro e; have := t.isLt; omega

/-- The convolution written with the padded signal is the signal through the matrix `tap`. -/
theorem conv_eq (x : Fin 25 → ℝ) (w : Fin 32 → Fin 3 → ℝ) (f : Fin 800) :
    padded x (f.val % 25 + 0) * w (chan f) 0 + padded x (f.val % 25 + 1) * w (chan f) 1 + padded x (f.val % 25 + 2) * w (chan f) 2
      = ∑ t, x t * tap w t f := by
  simp only [tap, mul_add, sum_add_distrib, sum_tap]

/-- A finite sum of reals, seen among the extended reals, is the sum of the terms seen there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The successor permutation of a ring of `n + 1` nodes. -/
def succ (n : Nat) : Equiv.Perm (Fin (n + 1)) := Equiv.addRight 1

/-- The real weights of one branch over `n + 1` nodes: convolution taps and bias, the two graph-convolution weights and
their bias, and the projection weights. -/
structure Weights (n : Nat) where
  w : Fin 32 → Fin 3 → ℝ
  b : Fin 32 → ℝ
  W0 : Fin 800 → Fin 64 → ℝ
  W1 : Fin 800 → Fin 64 → ℝ
  gb : Fin 64 → ℝ
  P : Fin (n + 1) → Fin 64 → Fin 256 → ℝ

/-- A branch in folded form, at one row of inputs and one output feature. -/
def Weights.folded {n : Nat} (a : Weights n) (x : Fin (n + 1) → Fin 25 → ℝ) (q : Fin 256) : ℝ :=
  (∑ v, ∑ t, x v t * block (succ n) (tap a.w) a.W0 a.W1 (fun v o => a.P v o q) v t)
    + const (fun f => a.b (chan f)) a.W0 a.W1 a.gb (fun v o => a.P v o q)

/-- A branch as the layers state it, at one row of inputs and one output feature. -/
def Weights.layers {n : Nat} (a : Weights n) (x : Fin (n + 1) → Fin 25 → ℝ) (q : Fin 256) : ℝ :=
  ∑ v, ∑ o, gcn (succ n) (feat x (tap a.w) (fun f => a.b (chan f))) a.W0 a.W1 a.gb v o * a.P v o q

/-- The folded branch is the layered one. -/
theorem Weights.folded_eq {n : Nat} (a : Weights n) (x : Fin (n + 1) → Fin 25 → ℝ) (q : Fin 256) :
    a.folded x q = a.layers x q := by
  rw [Weights.folded, Weights.layers, fold]

/-- What follows the two branches at one row: the attention weight of the row mixes the two branches, the mixture is
    clipped below at zero, and a last linear map goes through the logistic function. -/
def head (ge gr aw fw : Fin 256 → EReal) (ab fb : EReal) : EReal :=
  Idealize.ShloMosaic.Ideal.logistic (∑ q,
    max (Idealize.ShloMosaic.Ideal.logistic (∑ p, Idealize.ShloMosaic.Ideal.tanh (ge p + gr p) * aw p + ab) * ge q
      + (1 - Idealize.ShloMosaic.Ideal.logistic (∑ p, Idealize.ShloMosaic.Ideal.tanh (ge p + gr p) * aw p + ab)) * gr q) 0 * fw q + fb)

end Cert.RealModel

end
-- ==== Proof.FoldRead.lean ====
/- The kernel's folding arithmetic, read one entry at a time.

   Both branches of the kernel build the same three things from their own slices of the packed weights: the
   convolution matrix (one-hot products that spread the taps over the features), the folded blocks, and
   the bias row. This file states what an entry of each is. -/
module

public import proofs.«01_k».proof.Proof.Gen.KernelIdeal.Value
public import proofs.«01_k».proof.Proof.RealModel
public import Idealize.ShloMosaic.Lib.Pointwise
public import Idealize.ShloMosaic.Lib.Pipeline.ValueKit

@[expose] public section

set_option maxRecDepth 16384

noncomputable section

namespace Cert.FoldRead

open Cert.KernelIdeal Cert.KernelIdeal.Gen Cert.RealModel Idealize.ShloMosaic Idealize.SL.Sem

/-! ## Words -/

/-- Selecting on a comparison of two small words for equality is an `if` on the numbers. -/
theorem select_eq {α : Type} (a b : Nat) (ha : a < 2 ^ 32) (hb : b < 2 ^ 32) (x y : α) :
    Scalar.select (IntOp.cmpi .eq (BitVec.ofNat 32 a) (BitVec.ofNat 32 b)) x y = if a = b then x else y := by
  norm_num at ha hb
  have e : (BitVec.ofNat 32 a == BitVec.ofNat 32 b) = decide (a = b) := by
    rw [Bool.eq_iff_iff, beq_iff_eq, decide_eq_true_iff, BitVec.toNat_eq, BitVec.toNat_ofNat, BitVec.toNat_ofNat,
      Nat.mod_eq_of_lt ha, Nat.mod_eq_of_lt hb]
  by_cases h : a = b <;> simp [Scalar.select, IntOp.cmpi, e, h]

/-- Selecting on the bit of a proposition is an `if`. -/
theorem select_bit {α : Type} (p : Prop) [Decidable p] (x y : α) :
    Scalar.select (if p then 1#1 else 0#1) x y = if p then x else y := by
  by_cases h : p <;> simp [Scalar.select, h]

/-- A row through a one-hot column is the entry the column names. -/
theorem pick {n : Nat} (w : Fin n → EReal) (m : Nat) (hm : m < n) (hn : n < 2 ^ 32) :
    ∑ x : Fin n, Scalar.select (IntOp.cmpi .eq (BitVec.ofNat 32 x.val) (BitVec.ofNat 32 m)) (w x) 0 = w ⟨m, hm⟩ := by
  rw [Finset.sum_eq_single (⟨m, hm⟩ : Fin n)]
  · rw [select_eq _ _ (by omega) (by omega), if_pos rfl]
  · intro x _ hx
    have := x.isLt
    rw [select_eq _ _ (by omega) (by omega), if_neg fun e => hx (Fin.ext e)]
  · intro h; exact absurd (Finset.mem_univ _) h

/-- Three times the channel number of feature `f`, as the kernel computes it with its floor division. -/
theorem pay9_at (r : Fin 96) (f : Fin 800) : k0_pay9 (ix2 r f) = BitVec.ofNat 32 (3 * (f.val / 25)) := by
  unfold k0_pay9
  pointwise
  revert f; decide +kernel

/-- Row `t` minus output position plus one equals `k` exactly where tap `k` applies. -/
theorem tap_word (t : Fin 25) (m : Fin 25) : ∀ k : Fin 3,
    IntOp.cmpi .eq (IntOp.addi (IntOp.subi (BitVec.ofNat 32 t.val) (BitVec.ofNat 32 m.val)) 1#32) (BitVec.ofNat 32 k.val)
      = if t.val + 1 = m.val + k.val then 1#1 else 0#1 := by
  revert t m; decide +kernel

/-- The word compared against the tap number, as the kernel computes it with its floor remainder. -/
theorem pay62_at (t : Fin 25) (f : Fin 800) :
    k0_pay62 (ix2 t f) = IntOp.addi (IntOp.subi (BitVec.ofNat 32 t.val) (BitVec.ofNat 32 (f.val % 25))) 1#32 := by
  unfold k0_pay62
  pointwise
  congr 2
  revert f; decide +kernel

/-! ## The convolution matrix and the bias row -/

/-- The convolution matrix as the kernel builds it from a row of 96 taps. -/
def conv (w : FVec Ideal S1x96 .f32) : FVec Ideal S25x800 .f32 :=
  k0_pay66 (k0_pay63 (k0_pay13 w k0_pay10 k0_pay11 k0_pay12) (k0_pay14 w (iota .tc S96x800 32 [0] iota_S96x800_d0_w32) k0_pay9))
    k0_pay64 (Scalar.ofBits .f32 0x00000000#32) (k0_pay65 (k0_pay15 w (iota .tc S96x800 32 [0] iota_S96x800_d0_w32) k0_pay9))

/-- The bias row as the kernel builds it from 32 channel biases. -/
def biasRow (b : FVec Ideal S1x32 .f32) : FVec Ideal S1x800 .f32 := k0_pay17 b k0_pay16 (Scalar.ofBits .f32 0x3F800000#32)

/-- The first tap, spread over the features. -/
theorem pay13_at (w : FVec Ideal S1x96 .f32) (f : Fin 800) :
    k0_pay13 w k0_pay10 k0_pay11 k0_pay12 (ix2 (0 : Fin 1) f) = w (ix2 0 (⟨3 * (f.val / 25) + 0, by omega⟩ : Fin 96)) := by
  unfold k0_pay13 k0_pay10 k0_pay11 k0_pay12
  pointwise [pay9_at]
  simp only [IntOp.addi, ← BitVec.ofNat_add]
  exact pick (fun x => w (ix2 0 x)) _ _ (by decide)

/-- The second tap, spread over the features. -/
theorem pay14_at (w : FVec Ideal S1x96 .f32) (f : Fin 800) :
    k0_pay14 w (iota .tc S96x800 32 [0] iota_S96x800_d0_w32) k0_pay9 (ix2 (0 : Fin 1) f)
      = w (ix2 0 (⟨3 * (f.val / 25) + 1, by omega⟩ : Fin 96)) := by
  unfold k0_pay14
  pointwise [pay9_at]
  simp only [IntOp.addi, ← BitVec.ofNat_add]
  exact pick (fun x => w (ix2 0 x)) _ _ (by decide)

/-- The third tap, spread over the features. -/
theorem pay15_at (w : FVec Ideal S1x96 .f32) (f : Fin 800) :
    k0_pay15 w (iota .tc S96x800 32 [0] iota_S96x800_d0_w32) k0_pay9 (ix2 (0 : Fin 1) f)
      = w (ix2 0 (⟨3 * (f.val / 25) + 2, by omega⟩ : Fin 96)) := by
  unfold k0_pay15
  pointwise [pay9_at]
  simp only [IntOp.addi, ← BitVec.ofNat_add]
  exact pick (fun x => w (ix2 0 x)) _ _ (by decide)

/-- The convolution's bias, spread over the features. -/
theorem biasRow_at (b : FVec Ideal S1x32 .f32) (f : Fin 800) : biasRow b (ix2 (0 : Fin 1) f) = b (ix2 0 (chan f)) := by
  unfold biasRow k0_pay17 k0_pay16
  pointwise
  refine Eq.trans ?_ (pick (fun x => b (ix2 0 x)) (f.val / 25) (by omega) (by decide))
  refine Finset.sum_congr rfl fun x _ => ?_
  congr 2
  revert f; decide +kernel

/-- One entry of the kernel's convolution matrix: each of the three taps where it applies, else zero. -/
theorem conv_at (w : FVec Ideal S1x96 .f32) (t : Fin 25) (f : Fin 800) : conv w (ix2 t f)
    = (if t.val + 1 = f.val % 25 + 0 then w (ix2 0 (⟨3 * (f.val / 25) + 0, by omega⟩ : Fin 96)) else 0)
      + (if t.val + 1 = f.val % 25 + 1 then w (ix2 0 (⟨3 * (f.val / 25) + 1, by omega⟩ : Fin 96)) else 0)
      + (if t.val + 1 = f.val % 25 + 2 then w (ix2 0 (⟨3 * (f.val / 25) + 2, by omega⟩ : Fin 96)) else 0) := by
  have hk := fun k : Fin 3 => tap_word t ⟨f.val % 25, by omega⟩ k
  unfold conv k0_pay63 k0_pay64 k0_pay65 k0_pay66
  pointwise [pay62_at, pay13_at, pay14_at, pay15_at]
  have h0 := hk 0; have h1 := hk 1; have h2 := hk 2
  simp only [Fin.val_zero, Fin.val_one, Fin.val_two] at h0 h1 h2
  rw [h0, h1, h2, pay14_at, pay15_at]
  simp only [select_bit, Nat.add_zero, Nat.add_right_cancel_iff]

/-! ## The folded blocks -/

/-- The convolution matrix through a graph-convolution weight. -/
def through (wt : FVec Ideal S800x64 .f32) (w : FVec Ideal S1x96 .f32) : FVec Ideal S25x64 .f32 := k0_pay19 wt (conv w)

/-- One folded block as the kernel builds it, from a node's projection weights `p` and its neighbours' `pm`, `pn`. -/
def blk (a0 a1 : FVec Ideal S25x64 .f32) (p pm pn : FVec Ideal S64x256 .f32) : FVec Ideal S25x256 .f32 :=
  subf (matmul dot_S25x64_S64x256_S25x256_1_0_0_1_n_n none a0 (shapeCast S64x256 p shapeCasts_S64x256_S64x256)
      (constant S25x256 .f32 0x00000000#32))
    (mulf (broadcast S25x256 (Scalar.ofBits .f32 0x3F000000#32))
      (matmul dot_S25x64_S64x256_S25x256_1_0_0_1_n_n none a1
        (addf (shapeCast S64x256 pm shapeCasts_S64x256_S64x256) (shapeCast S64x256 pn shapeCasts_S64x256_S64x256))
        (constant S25x256 .f32 0x00000000#32)))

/-- The convolution matrix multiplied by graph weights. -/
theorem through_at (wt : FVec Ideal S800x64 .f32) (w : FVec Ideal S1x96 .f32) (t : Fin 25) (o : Fin 64) :
    through wt w (ix2 t o) = ∑ f, conv w (ix2 t f) * wt (ix2 f o) := by
  pointwise [through, k0_pay19]

/-- One folded block: a node's own projection less half of its two neighbours'. -/
theorem blk_at (a0 a1 : FVec Ideal S25x64 .f32) (p pm pn : FVec Ideal S64x256 .f32) (t : Fin 25) (q : Fin 256) :
    blk a0 a1 p pm pn (ix2 t q) = (∑ o, a0 (ix2 t o) * p (ix2 o q))
      - Ideal.ofBits .f32 0x3F000000#32 * ∑ o, a1 (ix2 t o) * (pm (ix2 o q) + pn (ix2 o q)) := by
  pointwise [blk]

/-- The bias row through the difference of the two weights, plus the graph-convolution bias. -/
theorem pay43_at (w0 w1 : FVec Ideal S800x64 .f32) (gb : FVec Ideal S1x64 .f32) (b : FVec Ideal S1x800 .f32) (o : Fin 64) :
    k0_pay43 w0 w1 gb b (ix2 (0 : Fin 1) o) = (∑ f, b (ix2 0 f) * (w0 (ix2 f o) - w1 (ix2 f o))) + gb (ix2 0 o) := by
  pointwise [k0_pay43]

/-- Blocks of 25 rows laid one under another: row `25 v + t` is row `t` of block `v`. -/
theorem cat_at {n : Nat} (p : Fin n → FVec Ideal S25x256 .f32) (v : Fin n) (t : Fin 25) (q : Fin 256)
    (h : Shape.Concatenates ((List.ofFn fun k : Fin n => (⟨S25x256, p k⟩ : (s : Shape) × (s.Idx → Ideal .f32))).map (·.1))
      (⟨2, ![25 * n, 256]⟩ : Shape) 0) :
    concatenate (⟨2, ![25 * n, 256]⟩ : Shape) 0 (List.ofFn fun k : Fin n => (⟨S25x256, p k⟩ : (s : Shape) × (s.Idx → Ideal .f32))) h
      (ix2 (⟨25 * v.val + t.val, by omega⟩ : Fin (25 * n)) q) = p v (ix2 t q) := by
  refine concatenate_ofFn_apply 0 p h rfl 25 rfl _ v ?_ _ ?_ ?_
  · show (25 * v.val + t.val) / 25 = v.val
    omega
  · show t.val = (25 * v.val + t.val) % 25
    omega
  · intro b hb
    match b with
    | ⟨0, _⟩ => exact absurd rfl hb
    | ⟨1, _⟩ => rfl

/-! ## The same entries when the weights are real numbers -/

/-- The word of one half. -/
theorem half : Ideal.ofBits .f32 0x3F000000#32 = ((1 / 2 : ℝ) : EReal) := by
  simp [Ideal.ofBits, Ideal.ieee, -EReal.coe_mul]; norm_num

/-- The convolution matrix of real taps is real. -/
theorem conv_real (wv : FVec Ideal S1x96 .f32) (w : Fin 32 → Fin 3 → ℝ)
    (hw : ∀ (c : Fin 32) (k : Fin 3), wv (ix2 0 (⟨3 * c.val + k.val, by omega⟩ : Fin 96)) = (w c k : EReal)) (t : Fin 25) (f : Fin 800) :
    conv wv (ix2 t f) = (tap w t f : EReal) := by
  have h := fun k => hw (chan f) k
  rw [conv_at, tap, EReal.coe_add, EReal.coe_add]
  congr 1
  · congr 1
    · split
      · exact h 0
      · rfl
    · split
      · exact h 1
      · rfl
  · split
    · exact h 2
    · rfl

/-- The spread bias of real numbers is real. -/
theorem biasRow_real (bv : FVec Ideal S1x32 .f32) (b : Fin 32 → ℝ) (hb : ∀ c, bv (ix2 0 c) = (b c : EReal)) (f : Fin 800) :
    biasRow bv (ix2 0 f) = (b (chan f) : EReal) := by
  rw [biasRow_at, hb]

section Real

variable {wv : FVec Ideal S1x96 .f32} {w : Fin 32 → Fin 3 → ℝ}
  (hw : ∀ (c : Fin 32) (k : Fin 3), wv (ix2 0 (⟨3 * c.val + k.val, by omega⟩ : Fin 96)) = (w c k : EReal))

include hw in
/-- The convolution matrix times real graph weights is real. -/
theorem through_real (wt : FVec Ideal S800x64 .f32) (W : Fin 800 → Fin 64 → ℝ) (hW : ∀ f o, wt (ix2 f o) = (W f o : EReal))
    (t : Fin 25) (o : Fin 64) : through wt wv (ix2 t o) = ((∑ f, tap w t f * W f o : ℝ) : EReal) := by
  rw [through_at, coe_sum]
  exact Finset.sum_congr rfl fun f _ => by rw [conv_real wv w hw, hW, EReal.coe_mul]

variable {w0 w1 : FVec Ideal S800x64 .f32} {W0 W1 : Fin 800 → Fin 64 → ℝ} (h0 : ∀ f o, w0 (ix2 f o) = (W0 f o : EReal))
  (h1 : ∀ f o, w1 (ix2 f o) = (W1 f o : EReal)) {n : Nat} {p : Fin (n + 1) → FVec Ideal S64x256 .f32}
  {P : Fin (n + 1) → Fin 64 → Fin 256 → ℝ} (hP : ∀ v o q, p v (ix2 o q) = (P v o q : EReal))

include hw h0 h1 hP in
/-- A folded block is the real folded block of its node. -/
theorem blk_real (v : Fin (n + 1)) (t : Fin 25) (q : Fin 256) :
    blk (through w0 wv) (through w1 wv) (p v) (p (v - 1)) (p (v + 1)) (ix2 t q)
      = (block (succ n) (tap w) W0 W1 (fun v o => P v o q) v t : EReal) := by
  have e : (succ n).symm v = v - 1 := by rw [sub_eq_add_neg]; rfl
  rw [blk_at, half, block, e, EReal.coe_sub, EReal.coe_mul, coe_sum, coe_sum]
  congr 2
  · funext o
    rw [through_real hw w0 W0 h0, hP, EReal.coe_mul]
  · refine Finset.sum_congr rfl fun o _ => ?_
    rw [through_real hw w1 W1 h1, hP, hP, EReal.coe_mul, EReal.coe_add]
    rfl

variable {bv : FVec Ideal S1x32 .f32} {b : Fin 32 → ℝ} (hb : ∀ c, bv (ix2 0 c) = (b c : EReal))
  {gbv : FVec Ideal S1x64 .f32} {gb : Fin 64 → ℝ} (hg : ∀ o, gbv (ix2 0 o) = (gb o : EReal))

include h0 h1 hP hb hg in
/-- The bias row through the summed projection weights is the real folded constant. -/
theorem const_real (q : Fin 256) :
    ∑ o, k0_pay43 w0 w1 gbv (biasRow bv) (ix2 (0 : Fin 1) o) * ∑ v, p v (ix2 o q)
      = (const (fun f => b (chan f)) W0 W1 gb (fun v o => P v o q) : EReal) := by
  rw [const, coe_sum]
  refine Finset.sum_congr rfl fun o _ => ?_
  rw [pay43_at, EReal.coe_mul, EReal.coe_add, coe_sum, coe_sum, hg]
  congr 2
  · congr 1
    funext f
    rw [biasRow_real bv b hb, h0, h1, EReal.coe_mul, EReal.coe_sub]
  · exact funext fun v => hP v o q

end Real

end Cert.FoldRead

end
-- ==== Proof.KernelBranch.lean ====
module
public import proofs.«01_k».proof.Proof.FoldRead

/-!
# The two branches of the kernel, read entry by entry

Each branch multiplies its input by a matrix of folded blocks and adds a folded row. Held against real weights, an entry
of a branch is the real folded value of its row plus the projection bias.
-/

@[expose] public section
noncomputable section
namespace Cert.KernelBranch
open Cert.KernelIdeal Cert.KernelIdeal.Gen Cert.RealModel Cert.FoldRead Idealize.ShloMosaic Idealize.SL.Sem
set_option maxRecDepth 16384

/-- The packed buffers hold a branch's weights: the small ones from column `s`, the graph-convolution weights from column
`g`, the projection weights from row `p`. -/
structure Held (n s g p : Nat) (x2 : Vec Ideal S1x2048 .f32) (x3 : Vec Ideal S800x256 .f32) (x4 : Vec Ideal S1792x256 .f32)
    (a : Weights n) (pb : Fin 256 → EReal) : Prop where
  w : ∀ (c : Fin 32) (k : Fin 3) (i : Fin 2048), i.val = s + (3 * c.val + k.val) → x2 (ix2 0 i) = (a.w c k : EReal)
  b : ∀ (c : Fin 32) (i : Fin 2048), i.val = s + (128 + c.val) → x2 (ix2 0 i) = (a.b c : EReal)
  gb : ∀ (o : Fin 64) (i : Fin 2048), i.val = s + (256 + o.val) → x2 (ix2 0 i) = (a.gb o : EReal)
  pb : ∀ (q : Fin 256) (i : Fin 2048), i.val = s + (384 + q.val) → x2 (ix2 0 i) = pb q
  W0 : ∀ (f : Fin 800) (o : Fin 64) (i : Fin 256), i.val = g + o.val → x3 (ix2 f i) = (a.W0 f o : EReal)
  W1 : ∀ (f : Fin 800) (o : Fin 64) (i : Fin 256), i.val = g + (64 + o.val) → x3 (ix2 f i) = (a.W1 f o : EReal)
  P : ∀ (v : Fin (n + 1)) (o : Fin 64) (q : Fin 256) (i : Fin 1792), i.val = p + (64 * v.val + o.val) → x4 (ix2 i q) = (a.P v o q : EReal)

/-- A sum over 400 inputs, node by node. -/
theorem sum400 (g : Fin 400 → EReal) : ∑ i, g i = ∑ v : Fin 16, ∑ t : Fin 25, g ⟨25 * v.val + t.val, by omega⟩ := by
  rw [← Fintype.sum_prod_type']
  refine (Fintype.sum_equiv (finProdFinEquiv (m := 16) (n := 25)) _ _ fun p => congrArg g (Fin.ext ?_)).symm
  show 25 * p.1.val + p.2.val = p.2.val + 25 * p.1.val
  omega

/-- A sum over 300 inputs, node by node. -/
theorem sum300 (g : Fin 300 → EReal) : ∑ i, g i = ∑ v : Fin 12, ∑ t : Fin 25, g ⟨25 * v.val + t.val, by omega⟩ := by
  rw [← Fintype.sum_prod_type']
  refine (Fintype.sum_equiv (finProdFinEquiv (m := 12) (n := 25)) _ _ fun p => congrArg g (Fin.ext ?_)).symm
  show 25 * p.1.val + p.2.val = p.2.val + 25 * p.1.val
  omega

/-- A sum over sixteen nodes, written out. -/
theorem sum_sixteen (g : Fin 16 → EReal) : ∑ v, g v
    = g 0 + g 1 + g 2 + g 3 + g 4 + g 5 + g 6 + g 7 + g 8 + g 9 + g 10 + g 11 + g 12 + g 13 + g 14 + g 15 := by
  simp only [Fin.sum_univ_castSucc, Fin.sum_univ_zero, zero_add]
  rfl

/-- A sum over twelve nodes, written out. -/
theorem sum_twelve (g : Fin 12 → EReal) : ∑ v, g v
    = g 0 + g 1 + g 2 + g 3 + g 4 + g 5 + g 6 + g 7 + g 8 + g 9 + g 10 + g 11 := by
  simp only [Fin.sum_univ_castSucc, Fin.sum_univ_zero, zero_add]
  rfl

variable (x0 : Vec Ideal S1024x400 .f32) (x1 : Vec Ideal S1024x300 .f32) (x2 : Vec Ideal S1x2048 .f32)
  (x3 : Vec Ideal S800x256 .f32) (x4 : Vec Ideal S1792x256 .f32)

/-! ## The branch of 16 nodes -/

/-- The projection weights of the 16 nodes, as the kernel loads them. -/
def loads16 : Fin 16 → Vec Ideal S64x256 .f32 :=
  ![View.ld x4 r0_3, View.ld x4 r0_5, View.ld x4 r0_6, View.ld x4 r0_7, View.ld x4 r0_8, View.ld x4 r0_9,
    View.ld x4 r0_10, View.ld x4 r0_11, View.ld x4 r0_12, View.ld x4 r0_13, View.ld x4 r0_14, View.ld x4 r0_15,
    View.ld x4 r0_16, View.ld x4 r0_17, View.ld x4 r0_18, View.ld x4 r0_4]

/-- The sixteen blocks of projection weights, as loaded. -/
theorem loads16_at (v : Fin 16) (o : Fin 64) (q : Fin 256) :
    loads16 x4 v (ix2 o q) = x4 (ix2 (⟨64 * v.val + o.val, by omega⟩ : Fin 1792) q) := by
  obtain ⟨v, hv⟩ := v
  interval_cases v <;> (dsimp [loads16]; pointwise!)

/-- Row `25 v + t` of the folded matrix is row `t` of node `v`'s block. -/
theorem matrix16_at (v : Fin 16) (t : Fin 25) (q : Fin 256) :
    k0_pay102 (F := Ideal) x0 x1 x2 x3 x4 (ix2 (⟨25 * v.val + t.val, by omega⟩ : Fin 400) q)
      = blk (through (k0_pay96 x0 x1 x2 x3 x4) (k0_pay95 x0 x1 x2 x3 x4)) (through (k0_pay97 x0 x1 x2 x3 x4) (k0_pay95 x0 x1 x2 x3 x4))
          (loads16 x4 v) (loads16 x4 (v - 1)) (loads16 x4 (v + 1)) (ix2 t q) :=
  cat_at (fun v : Fin 16 => blk (through (k0_pay96 x0 x1 x2 x3 x4) (k0_pay95 x0 x1 x2 x3 x4))
      (through (k0_pay97 x0 x1 x2 x3 x4) (k0_pay95 x0 x1 x2 x3 x4)) (loads16 x4 v) (loads16 x4 (v - 1)) (loads16 x4 (v + 1))) v t q
    concatenates_S25x256_S25x256_S25x256_S25x256_S25x256_S25x256_S25x256_S25x256_S25x256_S25x256_S25x256_S25x256_S25x256_S25x256_S25x256_S25x256_S400x256_d0

/-- The projection weights summed over the nodes, in the order the kernel adds them. -/
theorem sum16_at (o : Fin 64) (q : Fin 256) :
    ∑ v, loads16 x4 v (ix2 o q) = k0_pay45 (F := Ideal) (k0_pay44 (View.ld x4 r0_3) (View.ld x4 r0_5) (View.ld x4 r0_6)) (View.ld x4 r0_7) (View.ld x4 r0_8) (View.ld x4 r0_9) (View.ld x4 r0_10) (View.ld x4 r0_11) (View.ld x4 r0_12) (View.ld x4 r0_13) (View.ld x4 r0_14) (View.ld x4 r0_15) (View.ld x4 r0_16) (View.ld x4 r0_17) (View.ld x4 r0_18) (ix2 o q) + x4 (ix2 (⟨960 + o.val, by omega⟩ : Fin 1792) q) := by
  simp only [loads16_at]
  rw [sum_sixteen]
  pointwise [k0_pay44, k0_pay45]

/-- The folded row is the bias row through the sum of the projection weights, plus the projection bias. -/
theorem row16_at (q : Fin 256) :
    k0_pay104 (F := Ideal) x0 x1 x2 x3 x4 (ix2 (0 : Fin 1) q)
      = (∑ o, k0_pay43 (k0_pay96 x0 x1 x2 x3 x4) (k0_pay97 x0 x1 x2 x3 x4) (k0_pay7 (F := Ideal) (View.ld x2 r0_0))
          (biasRow (k0_pay4 (F := Ideal) (View.ld x2 r0_0))) (ix2 (0 : Fin 1) o) * ∑ v, loads16 x4 v (ix2 o q))
        + k0_pay8 (F := Ideal) (View.ld x2 r0_0) (ix2 (0 : Fin 1) q) := by
  have e : ∀ (A : FVec Ideal S1x64 .f32) (B : FVec Ideal S1x256 .f32) (C : FVec Ideal S64x256 .f32),
      k0_pay46 (F := Ideal) B A C (View.ld x4 r0_4) (ix2 (0 : Fin 1) q)
        = (∑ o, A (ix2 (0 : Fin 1) o) * (C (ix2 o q) + x4 (ix2 (⟨960 + o.val, by omega⟩ : Fin 1792) q))) + B (ix2 (0 : Fin 1) q) := by
    intro A B C
    pointwise [k0_pay46]
  rw [k0_pay104, e]
  exact congrArg (· + _) (Finset.sum_congr rfl fun o _ => by rw [sum16_at]; rfl)

/-- The branch of 16 nodes: the real folded value plus the projection bias. -/
theorem ecc_real {a : Weights 15} {pb : Fin 256 → EReal} (h : Held 15 0 0 0 x2 x3 x4 a pb) (x : Fin 1024 → Fin 16 → Fin 25 → ℝ)
    (hx : ∀ (r : Fin 1024) (v : Fin 16) (t : Fin 25), x0 (ix2 r (⟨25 * v.val + t.val, by omega⟩ : Fin 400)) = (x r v t : EReal))
    (r : Fin 1024) (q : Fin 256) :
    k0_pay88 (F := Ideal) (k0_pay102 x0 x1 x2 x3 x4) (k0_pay104 x0 x1 x2 x3 x4) (View.ld x0 r0_33) (ix2 r q)
      = (a.folded (x r) q : EReal) + pb q := by
  have e : k0_pay88 (F := Ideal) (k0_pay102 x0 x1 x2 x3 x4) (k0_pay104 x0 x1 x2 x3 x4) (View.ld x0 r0_33) (ix2 r q)
      = (∑ i : Fin 400, x0 (ix2 r i) * k0_pay102 (F := Ideal) x0 x1 x2 x3 x4 (ix2 i q)) + k0_pay104 (F := Ideal) x0 x1 x2 x3 x4 (ix2 (0 : Fin 1) q) := by
    generalize k0_pay102 (F := Ideal) x0 x1 x2 x3 x4 = A
    generalize k0_pay104 (F := Ideal) x0 x1 x2 x3 x4 = B
    pointwise [k0_pay88]
  have hw : ∀ (c : Fin 32) (k : Fin 3), k0_pay95 (F := Ideal) x0 x1 x2 x3 x4 (ix2 0 (⟨3 * c.val + k.val, by omega⟩ : Fin 96)) = (a.w c k : EReal) := by
    intro c k
    pointwise [k0_pay95, k0_pay3, k0_pay2]
    exact h.w c k _ (by simp)
  have h0 : ∀ f o, k0_pay96 (F := Ideal) x0 x1 x2 x3 x4 (ix2 f o) = (a.W0 f o : EReal) := by
    intro f o
    pointwise [k0_pay96, k0_pay5]
    exact h.W0 f o _ (by simp)
  have h1 : ∀ f o, k0_pay97 (F := Ideal) x0 x1 x2 x3 x4 (ix2 f o) = (a.W1 f o : EReal) := by
    intro f o
    pointwise [k0_pay97, k0_pay6]
    exact h.W1 f o _ (by simp)
  have hb : ∀ c, k0_pay4 (F := Ideal) (View.ld x2 r0_0) (ix2 (0 : Fin 1) c) = (a.b c : EReal) := by
    intro c
    pointwise [k0_pay4, k0_pay2]
    exact h.b c _ (by simp)
  have hg : ∀ o, k0_pay7 (F := Ideal) (View.ld x2 r0_0) (ix2 (0 : Fin 1) o) = (a.gb o : EReal) := by
    intro o
    pointwise [k0_pay7, k0_pay2]
    exact h.gb o _ (by simp)
  have hp : k0_pay8 (F := Ideal) (View.ld x2 r0_0) (ix2 (0 : Fin 1) q) = pb q := by
    pointwise [k0_pay8, k0_pay2]
    exact h.pb q _ (by simp)
  have hP : ∀ v o q, loads16 x4 v (ix2 o q) = (a.P v o q : EReal) := by
    intro v o q
    rw [loads16_at]
    exact h.P v o q _ (by simp)
  rw [e, row16_at, hp, const_real h0 h1 hP hb hg, ← add_assoc, Weights.folded, EReal.coe_add]
  congr 2
  rw [sum400, coe_sum]
  refine Finset.sum_congr rfl fun v _ => ?_
  rw [coe_sum]
  refine Finset.sum_congr rfl fun t _ => ?_
  rw [hx, matrix16_at, blk_real hw h0 h1 hP, EReal.coe_mul]

/-! ## The branch of 12 nodes -/

/-- The projection weights of the 12 nodes, as the kernel loads them. -/
def loads12 : Fin 12 → Vec Ideal S64x256 .f32 :=
  ![View.ld x4 r0_21, View.ld x4 r0_23, View.ld x4 r0_24, View.ld x4 r0_25, View.ld x4 r0_26, View.ld x4 r0_27,
    View.ld x4 r0_28, View.ld x4 r0_29, View.ld x4 r0_30, View.ld x4 r0_31, View.ld x4 r0_32, View.ld x4 r0_22]

/-- The twelve blocks of projection weights, as loaded. -/
theorem loads12_at (v : Fin 12) (o : Fin 64) (q : Fin 256) :
    loads12 x4 v (ix2 o q) = x4 (ix2 (⟨1024 + (64 * v.val + o.val), by omega⟩ : Fin 1792) q) := by
  have e : ∀ a b : Fin 1792, a.val = b.val → x4 (ix2 a q) = x4 (ix2 b q) := fun a b h => by rw [Fin.ext h]
  obtain ⟨v, hv⟩ := v
  interval_cases v <;> (dsimp [loads12]; pointwise!; try exact e _ _ (by simp; omega))

/-- Row `25 v + t` of the folded matrix is row `t` of node `v`'s block. -/
theorem matrix12_at (v : Fin 12) (t : Fin 25) (q : Fin 256) :
    k0_pay115 (F := Ideal) x0 x1 x2 x3 x4 (ix2 (⟨25 * v.val + t.val, by omega⟩ : Fin 300) q)
      = blk (through (k0_pay106 x0 x1 x2 x3 x4) (k0_pay105 x0 x1 x2 x3 x4)) (through (k0_pay107 x0 x1 x2 x3 x4) (k0_pay105 x0 x1 x2 x3 x4))
          (loads12 x4 v) (loads12 x4 (v - 1)) (loads12 x4 (v + 1)) (ix2 t q) :=
  cat_at (fun v : Fin 12 => blk (through (k0_pay106 x0 x1 x2 x3 x4) (k0_pay105 x0 x1 x2 x3 x4))
      (through (k0_pay107 x0 x1 x2 x3 x4) (k0_pay105 x0 x1 x2 x3 x4)) (loads12 x4 v) (loads12 x4 (v - 1)) (loads12 x4 (v + 1))) v t q
    concatenates_S25x256_S25x256_S25x256_S25x256_S25x256_S25x256_S25x256_S25x256_S25x256_S25x256_S25x256_S25x256_S300x256_d0

/-- The second branch is the input times the folded matrix, plus the row through the summed weights, plus the bias. -/
theorem err_at (r : Fin 1024) (q : Fin 256) :
    k0_pay89 (F := Ideal) (k0_pay108 x0 x1 x2 x3 x4) (k0_pay115 x0 x1 x2 x3 x4) (k0_pay116 x0 x1 x2 x3 x4) (k0_pay117 x0 x1 x2 x3 x4)
        (View.ld x4 r0_29) (View.ld x4 r0_30) (View.ld x4 r0_31) (View.ld x4 r0_32) (View.ld x4 r0_22) (View.ld x1 r0_34) (ix2 r q)
      = (∑ i : Fin 300, x1 (ix2 r i) * k0_pay115 (F := Ideal) x0 x1 x2 x3 x4 (ix2 i q))
        + ((∑ o, k0_pay43 (k0_pay106 x0 x1 x2 x3 x4) (k0_pay107 x0 x1 x2 x3 x4) (k0_pay51 (F := Ideal) (k0_pay94 x0 x1 x2 x3 x4))
            (biasRow (k0_pay48 (F := Ideal) (k0_pay94 x0 x1 x2 x3 x4))) (ix2 (0 : Fin 1) o) * ∑ v, loads12 x4 v (ix2 o q))
          + k0_pay108 (F := Ideal) x0 x1 x2 x3 x4 (ix2 (0 : Fin 1) q)) := by
  have hs : ∀ o : Fin 64, ∑ v, loads12 x4 v (ix2 o q) = k0_pay117 (F := Ideal) x0 x1 x2 x3 x4 (ix2 o q)
      + x4 (ix2 (⟨1472 + o.val, by omega⟩ : Fin 1792) q) + x4 (ix2 (⟨1536 + o.val, by omega⟩ : Fin 1792) q) + x4 (ix2 (⟨1600 + o.val, by omega⟩ : Fin 1792) q)
      + x4 (ix2 (⟨1664 + o.val, by omega⟩ : Fin 1792) q) + x4 (ix2 (⟨1728 + o.val, by omega⟩ : Fin 1792) q) := by
    intro o
    simp only [loads12_at]
    rw [sum_twelve]
    have e : ∀ a b : Nat, ∀ ha : a < 1792, ∀ hb : b < 1792, a = b → x4 (ix2 ⟨a, ha⟩ q) = x4 (ix2 ⟨b, hb⟩ q) := by
      intro a b ha hb h
      subst h
      rfl
    pointwise [k0_pay117, k0_pay87]
    refine congrArg₂ _ (congrArg₂ _ (congrArg₂ _ (congrArg₂ _ (congrArg₂ _ (congrArg₂ _ (congrArg₂ _ (congrArg₂ _
      (congrArg₂ _ (congrArg₂ _ (congrArg₂ _ rfl ?_) ?_) ?_) ?_) ?_) ?_) ?_) ?_) ?_) ?_) ?_ <;> exact e _ _ _ _ (by omega)
  have hc : k0_pay43 (k0_pay106 x0 x1 x2 x3 x4) (k0_pay107 x0 x1 x2 x3 x4) (k0_pay51 (F := Ideal) (k0_pay94 x0 x1 x2 x3 x4))
      (biasRow (k0_pay48 (F := Ideal) (k0_pay94 x0 x1 x2 x3 x4))) = k0_pay116 (F := Ideal) x0 x1 x2 x3 x4 := rfl
  rw [hc]
  simp only [hs]
  generalize k0_pay108 (F := Ideal) x0 x1 x2 x3 x4 = A
  generalize k0_pay115 (F := Ideal) x0 x1 x2 x3 x4 = B
  generalize k0_pay116 (F := Ideal) x0 x1 x2 x3 x4 = C
  generalize k0_pay117 (F := Ideal) x0 x1 x2 x3 x4 = D
  pointwise [k0_pay89]

/-- The branch of 12 nodes: the real folded value plus the projection bias. -/
theorem err_real {a : Weights 11} {pb : Fin 256 → EReal} (h : Held 11 640 128 1024 x2 x3 x4 a pb) (x : Fin 1024 → Fin 12 → Fin 25 → ℝ)
    (hx : ∀ (r : Fin 1024) (v : Fin 12) (t : Fin 25), x1 (ix2 r (⟨25 * v.val + t.val, by omega⟩ : Fin 300)) = (x r v t : EReal))
    (r : Fin 1024) (q : Fin 256) :
    k0_pay89 (F := Ideal) (k0_pay108 x0 x1 x2 x3 x4) (k0_pay115 x0 x1 x2 x3 x4) (k0_pay116 x0 x1 x2 x3 x4) (k0_pay117 x0 x1 x2 x3 x4)
        (View.ld x4 r0_29) (View.ld x4 r0_30) (View.ld x4 r0_31) (View.ld x4 r0_32) (View.ld x4 r0_22) (View.ld x1 r0_34) (ix2 r q)
      = (a.folded (x r) q : EReal) + pb q := by
  have hw : ∀ (c : Fin 32) (k : Fin 3), k0_pay105 (F := Ideal) x0 x1 x2 x3 x4 (ix2 0 (⟨3 * c.val + k.val, by omega⟩ : Fin 96)) = (a.w c k : EReal) := by
    intro c k
    pointwise [k0_pay105, k0_pay94, k0_pay47, k0_pay2]
    exact h.w c k _ (by simp)
  have h0 : ∀ f o, k0_pay106 (F := Ideal) x0 x1 x2 x3 x4 (ix2 f o) = (a.W0 f o : EReal) := by
    intro f o
    pointwise [k0_pay106, k0_pay49]
    exact h.W0 f o _ (by simp)
  have h1 : ∀ f o, k0_pay107 (F := Ideal) x0 x1 x2 x3 x4 (ix2 f o) = (a.W1 f o : EReal) := by
    intro f o
    pointwise [k0_pay107, k0_pay50]
    exact h.W1 f o _ (by simp; omega)
  have hb : ∀ c, k0_pay48 (F := Ideal) (k0_pay94 x0 x1 x2 x3 x4) (ix2 (0 : Fin 1) c) = (a.b c : EReal) := by
    intro c
    pointwise [k0_pay48, k0_pay94, k0_pay2]
    exact h.b c _ (by simp; omega)
  have hg : ∀ o, k0_pay51 (F := Ideal) (k0_pay94 x0 x1 x2 x3 x4) (ix2 (0 : Fin 1) o) = (a.gb o : EReal) := by
    intro o
    pointwise [k0_pay51, k0_pay94, k0_pay2]
    exact h.gb o _ (by simp; omega)
  have hp : k0_pay108 (F := Ideal) x0 x1 x2 x3 x4 (ix2 (0 : Fin 1) q) = pb q := by
    pointwise [k0_pay108, k0_pay52, k0_pay94, k0_pay2]
    exact h.pb q _ (by simp; omega)
  have hP : ∀ v o q, loads12 x4 v (ix2 o q) = (a.P v o q : EReal) := by
    intro v o q
    rw [loads12_at]
    exact h.P v o q _ (by simp)
  rw [err_at, hp, const_real h0 h1 hP hb hg, ← add_assoc, Weights.folded, EReal.coe_add]
  congr 2
  rw [sum300, coe_sum]
  refine Finset.sum_congr rfl fun v _ => ?_
  rw [coe_sum]
  refine Finset.sum_congr rfl fun t _ => ?_
  rw [hx, matrix12_at, blk_real hw h0 h1 hP, EReal.coe_mul]

end Cert.KernelBranch

end
-- ==== Proof.KernelHead.lean ====
/- The kernel's result, one entry at a time, from the packed buffers it reads.

   The two branches meet in the head. Held against real weights, row `r` of the result is the head of the two folded
   branches at row `r`. -/
module

public import proofs.«01_k».proof.Proof.KernelBranch

@[expose] public section

set_option maxRecDepth 16384

noncomputable section

namespace Cert.KernelHead

open Cert.KernelIdeal Cert.KernelIdeal.Gen Cert.RealModel Cert.KernelBranch Idealize.ShloMosaic Idealize.SL.Sem

/-- Row `r` of the kernel's result is the head of the two folded branches. -/
theorem out_real (x0 : Vec Ideal S1024x400 .f32) (x1 : Vec Ideal S1024x300 .f32) (x2 : Vec Ideal S1x2048 .f32)
    (x3 : Vec Ideal S800x256 .f32) (x4 : Vec Ideal S1792x256 .f32) {a : Weights 15} {b : Weights 11} {pa pb : Fin 256 → EReal}
    (ha : Held 15 0 0 0 x2 x3 x4 a pa) (hb : Held 11 640 128 1024 x2 x3 x4 b pb)
    (x : Fin 1024 → Fin 16 → Fin 25 → ℝ) (y : Fin 1024 → Fin 12 → Fin 25 → ℝ)
    (hx : ∀ (r : Fin 1024) (v : Fin 16) (t : Fin 25), x0 (ix2 r (⟨25 * v.val + t.val, by omega⟩ : Fin 400)) = (x r v t : EReal))
    (hy : ∀ (r : Fin 1024) (v : Fin 12) (t : Fin 25), x1 (ix2 r (⟨25 * v.val + t.val, by omega⟩ : Fin 300)) = (y r v t : EReal))
    (r : Fin 1024) :
    out0_5 (F := Ideal) x0 x1 x2 x3 x4 (ix2 r (0 : Fin 1))
      = head (fun q => (a.folded (x r) q : EReal) + pa q) (fun q => (b.folded (y r) q : EReal) + pb q)
          (fun q => x2 (ix2 (0 : Fin 1) (⟨1280 + q.val, by omega⟩ : Fin 2048))) (fun q => x2 (ix2 (0 : Fin 1) (⟨1536 + q.val, by omega⟩ : Fin 2048)))
          (x2 (ix2 (0 : Fin 1) (1792 : Fin 2048))) (x2 (ix2 (0 : Fin 1) (1793 : Fin 2048))) := by
  have hA := err_real x0 x1 x2 x3 x4 hb y hy r
  have hB := ecc_real x0 x1 x2 x3 x4 ha x hx r
  simp only [← hA, ← hB]
  clear hA hB
  frame_out
  unfold k0_pay92 k0_pay91 k0_pay90
  generalize k0_pay89 (F := Ideal) _ _ _ _ _ _ _ _ _ _ = A
  generalize k0_pay88 (F := Ideal) _ _ _ = B
  pointwise [k0_pay1, k0_pay94, k0_pay2, head]

end Cert.KernelHead

end
-- ==== Proof.Ring.lean ====
/- The two rings: their edges, and what follows from every node having exactly two neighbours. -/
module

public import Idealize.ShloMosaic.Lib.Pointwise

@[expose] public section

noncomputable section

namespace Cert.Ring

open Idealize.ShloMosaic

/-- The source and the target of every edge of the ring of 16 nodes: first the edges to the next node, then those back. -/
def src16 (e : Fin 32) : Fin 16 := if e.val < 16 then ⟨e.val % 16, by omega⟩ else ⟨(e.val + 1) % 16, by omega⟩
/-- The target of an edge of the ring of 16 nodes. -/
def dst16 (e : Fin 32) : Fin 16 := if e.val < 16 then ⟨(e.val + 1) % 16, by omega⟩ else ⟨e.val % 16, by omega⟩

/-- The same for the ring of 12 nodes. -/
def src12 (e : Fin 24) : Fin 12 := if e.val < 12 then ⟨e.val % 12, by omega⟩ else ⟨(e.val + 1) % 12, by omega⟩
/-- The target of an edge of the ring of 12 nodes. -/
def dst12 (e : Fin 24) : Fin 12 := if e.val < 12 then ⟨(e.val + 1) % 12, by omega⟩ else ⟨e.val % 12, by omega⟩

/-- The edge into node `v` from the node before it, and the edge into `v` from the node after it. -/
def into16 (v : Fin 16) : Fin 32 := ⟨(v.val + 15) % 16, by omega⟩
def back16 (v : Fin 16) : Fin 32 := ⟨16 + v.val, by omega⟩
def into12 (v : Fin 12) : Fin 24 := ⟨(v.val + 11) % 12, by omega⟩
def back12 (v : Fin 12) : Fin 24 := ⟨12 + v.val, by omega⟩

/-- A sum over the edges into `v` has two terms: the node before and the node after. -/
theorem ring16 (g : Fin 16 → EReal) (v : Fin 16) : (∑ e, if dst16 e = v then g (src16 e) else 0) = g (v - 1) + g (v + 1) := by
  have hf : (Finset.univ.filter fun e => dst16 e = v) = {into16 v, back16 v} := by revert v; decide +kernel
  have hn : into16 v ≠ back16 v := by revert v; decide +kernel
  have ha : src16 (into16 v) = v - 1 := by revert v; decide +kernel
  have hb : src16 (back16 v) = v + 1 := by revert v; decide +kernel
  rw [← Finset.sum_filter, hf, Finset.sum_pair hn, ha, hb]

/-- The ring of 12 nodes: what arrives at a node is its two neighbours' values. -/
theorem ring12 (g : Fin 12 → EReal) (v : Fin 12) : (∑ e, if dst12 e = v then g (src12 e) else 0) = g (v - 1) + g (v + 1) := by
  have hf : (Finset.univ.filter fun e => dst12 e = v) = {into12 v, back12 v} := by revert v; decide +kernel
  have hn : into12 v ≠ back12 v := by revert v; decide +kernel
  have ha : src12 (into12 v) = v - 1 := by revert v; decide +kernel
  have hb : src12 (back12 v) = v + 1 := by revert v; decide +kernel
  rw [← Finset.sum_filter, hf, Finset.sum_pair hn, ha, hb]

/-- Two edges leave every node. -/
theorem degree16 (v : Fin 16) : (∑ e, if src16 e = v then (1 : EReal) else 0) = ((2 : ℝ) : EReal) := by
  have hc : (Finset.univ.filter fun e => src16 e = v).card = 2 := by revert v; decide +kernel
  rw [← Finset.sum_filter, Finset.sum_const, hc]
  norm_num [two_nsmul]
  norm_cast

/-- Every node of the ring of 12 is the source of two edges. -/
theorem degree12 (v : Fin 12) : (∑ e, if src12 e = v then (1 : EReal) else 0) = ((2 : ℝ) : EReal) := by
  have hc : (Finset.univ.filter fun e => src12 e = v).card = 2 := by revert v; decide +kernel
  rw [← Finset.sum_filter, Finset.sum_const, hc]
  norm_num [two_nsmul]
  norm_cast

/-- The scaling of a node of degree two. -/
theorem scale_two (z : EReal) :
    (if 0 < ((2 : ℝ) : EReal) then Ideal.div 1 (Ideal.sqrt ((2 : ℝ) : EReal)) else z) = (((Real.sqrt 2)⁻¹ : ℝ) : EReal) := by
  have h0 : (0 : EReal) < ((2 : ℝ) : EReal) := by exact_mod_cast (by norm_num : (0 : ℝ) < 2)
  have h2 : Real.sqrt 2 ≠ 0 := by positivity
  rw [if_pos h0, Ideal.sqrt_coe, if_neg (by norm_num), Ideal.div_coe h2, one_mul, one_div]

/-- The weight of an edge between two nodes of degree two. -/
theorem minus_half : -(((Real.sqrt 2)⁻¹ : ℝ) : EReal) * 1 * (((Real.sqrt 2)⁻¹ : ℝ) : EReal) = ((-(1 / 2) : ℝ) : EReal) := by
  rw [mul_one, ← EReal.coe_neg, ← EReal.coe_mul]
  refine congrArg _ ?_
  rw [neg_mul, ← mul_inv, Real.mul_self_sqrt (by norm_num)]
  norm_num

/-- The zero word as a number. -/
theorem zero_word : FloatOps.sitofp (F := Ideal) .f32 0#32 = ((0 : ℝ) : EReal) := by
  show ((((0#32 : BitVec 32).toInt : ℤ) : ℝ) : EReal) = _
  simp

/-- A sum over all nodes' channels, node by node. -/
theorem sum1024 (g : Fin 1024 → EReal) : ∑ i, g i = ∑ v : Fin 16, ∑ o : Fin 64, g ⟨64 * v.val + o.val, by omega⟩ := by
  rw [← Fintype.sum_prod_type']
  refine (Fintype.sum_equiv (finProdFinEquiv (m := 16) (n := 64)) _ _ fun p => congrArg g (Fin.ext ?_)).symm
  show 64 * p.1.val + p.2.val = p.2.val + 64 * p.1.val
  omega

/-- A sum over 768 numbers, node by node. -/
theorem sum768 (g : Fin 768 → EReal) : ∑ i, g i = ∑ v : Fin 12, ∑ o : Fin 64, g ⟨64 * v.val + o.val, by omega⟩ := by
  rw [← Fintype.sum_prod_type']
  refine (Fintype.sum_equiv (finProdFinEquiv (m := 12) (n := 64)) _ _ fun p => congrArg g (Fin.ext ?_)).symm
  show 64 * p.1.val + p.2.val = p.2.val + 64 * p.1.val
  omega

end Cert.Ring

end
-- ==== Proof.KernelPack.lean ====
/- The packed buffers the kernel reads, as the host lays them out.

   Small vectors go side by side into one row, the graph weights side by side into one matrix, the projections one
   above the other. Each is a sum of zero-padded pieces whose places do not overlap, so every place holds one piece. -/
module

public import proofs.«01_k».proof.Proof.KernelBranch
public import proofs.«01_k».proof.Proof.Ring
public import proofs.«01_k».proof.Proof.Gen.KernelIdeal.Value
public import Idealize.ShloMosaic.Lib.Pointwise
public import Idealize.ShloMosaic.Lib.Claim
public import Idealize.ShloMosaic.Lib.Tactic.CleanTypes

@[expose] public section

set_option maxRecDepth 16384

noncomputable section

namespace Cert.KernelPack

open Cert.KernelIdeal Cert.KernelIdeal.Gen Cert.RealModel Cert.KernelBranch Idealize.ShloMosaic Idealize.SL.Sem

/-- A piece of `n` numbers laid at place `lo`, zero elsewhere. -/
def piece (lo n : Nat) (x : Fin n → EReal) (i : Nat) : EReal := if h : lo ≤ i ∧ i - lo < n then x ⟨i - lo, h.2⟩ else 0

/-- A piece of `n` numbers laid at the front. -/
def front (n : Nat) (x : Fin n → EReal) (i : Nat) : EReal := if h : i < n then x ⟨i, h⟩ else 0

/-- A piece is zero outside its places. -/
theorem piece_out {lo n : Nat} (x : Fin n → EReal) {i : Nat} (h : i < lo ∨ lo + n ≤ i) : piece lo n x i = 0 :=
  dif_neg (by omega)

/-- A piece at one of its places. -/
theorem piece_in {lo n : Nat} (x : Fin n → EReal) {i : Nat} (k : Fin n) (h : i = lo + k.val) : piece lo n x i = x k := by
  subst h
  have hk := k.isLt
  rw [piece, dif_pos ⟨by omega, by omega⟩]
  exact congrArg x (Fin.ext (by show lo + k.val - lo = k.val; omega))

/-- A front piece is zero past its end. -/
theorem front_out {n : Nat} (x : Fin n → EReal) {i : Nat} (h : n ≤ i) : front n x i = 0 := dif_neg (by omega)

/-- A front piece at one of its places. -/
theorem front_in {n : Nat} (x : Fin n → EReal) {i : Nat} (k : Fin n) (h : i = k.val) : front n x i = x k := by
  subst h
  exact dif_pos k.isLt

/-- The padding is zero. -/
theorem zero_pad : FloatOps.sitofp (F := Ideal) .f32 0#32 = (0 : EReal) := Cert.Ring.zero_word.trans EReal.coe_zero

variable (m : (ℓ : Loc nD τ sig) → Buf (Elt Ideal) ℓ) (c : Dev nD)

/-- The first input, its nodes' time series one after another. -/
theorem ecc_at (r : Fin 1024) (v : Fin 16) (t : Fin 25) :
    (V m c main_v40 : FVec Ideal S1024x400 .f32) (ix2 r (⟨25 * v.val + t.val, by omega⟩ : Fin 400)) = m (c, Proc.devRef .tc main_arg0) (ix3 r v t) := by
  have i1 : (⟨(25 * v.val + t.val) / 25, by omega⟩ : Fin 16) = v := Fin.ext (by show (25 * v.val + t.val) / 25 = v.val; omega)
  have i2 : (⟨(25 * v.val + t.val) % 25, by omega⟩ : Fin 25) = t := Fin.ext (by show (25 * v.val + t.val) % 25 = t.val; omega)
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20,
    hostOps0_21, hostOps0_22, hostOps0_23, hostOps0_24, hostOps0_25, hostOps0_26, hostOps0_27, hostOps0_28, hostOps0_29, hostOps0_30,
    hostOps0_31, hostOps0_32, hostOps0_33, hostOps0_34, hostOps0_35, hostOps0_36, List.flatten_cons, List.flatten_nil, List.cons_append,
    List.nil_append, List.append_nil]
  entry_read
  clean_types
  pointwise [i1, i2]

/-- The second input, likewise. -/
theorem err_at (r : Fin 1024) (v : Fin 12) (t : Fin 25) :
    (V m c main_v41 : FVec Ideal S1024x300 .f32) (ix2 r (⟨25 * v.val + t.val, by omega⟩ : Fin 300)) = m (c, Proc.devRef .tc main_arg1) (ix3 r v t) := by
  have i1 : (⟨(25 * v.val + t.val) / 25, by omega⟩ : Fin 12) = v := Fin.ext (by show (25 * v.val + t.val) / 25 = v.val; omega)
  have i2 : (⟨(25 * v.val + t.val) % 25, by omega⟩ : Fin 25) = t := Fin.ext (by show (25 * v.val + t.val) % 25 = t.val; omega)
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20,
    hostOps0_21, hostOps0_22, hostOps0_23, hostOps0_24, hostOps0_25, hostOps0_26, hostOps0_27, hostOps0_28, hostOps0_29, hostOps0_30,
    hostOps0_31, hostOps0_32, hostOps0_33, hostOps0_34, hostOps0_35, hostOps0_36, List.flatten_cons, List.flatten_nil, List.cons_append,
    List.nil_append, List.append_nil]
  entry_read
  clean_types
  pointwise [i1, i2]

/-- The graph weights, side by side. -/
theorem graph_at (f : Fin 800) (i : Fin 256) : (V m c main_v36 : FVec Ideal S800x256 .f32) (ix2 f i)
    = (front 64 (fun o => m (c, Proc.devRef .tc main_arg6) (ix2 f o)) i.val + piece 64 64 (fun o => m (c, Proc.devRef .tc main_arg7) (ix2 f o)) i.val
        + piece 128 64 (fun o => m (c, Proc.devRef .tc main_arg9) (ix2 f o)) i.val + piece 192 64 (fun o => m (c, Proc.devRef .tc main_arg10) (ix2 f o)) i.val : EReal) := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20,
    hostOps0_21, hostOps0_22, hostOps0_23, hostOps0_24, hostOps0_25, hostOps0_26, hostOps0_27, hostOps0_28, hostOps0_29, hostOps0_30,
    hostOps0_31, hostOps0_32, hostOps0_33, hostOps0_34, hostOps0_35, hostOps0_36, List.flatten_cons, List.flatten_nil, List.cons_append,
    List.nil_append, List.append_nil]
  entry_read
  clean_types
  simp only [StableHlo.TRef.ofBuf, StableHlo.TRef.toBuf, cast_eq]
  clean_types
  pointwise []
  simp only [front, piece, zero_pad]

/-- The projections, one above the other. -/
theorem proj_at (i : Fin 1792) (q : Fin 256) : (V m c main_v39 : FVec Ideal S1792x256 .f32) (ix2 i q)
    = (front 1024 (fun k => m (c, Proc.devRef .tc main_arg12) (ix2 k q)) i.val + piece 1024 768 (fun k => m (c, Proc.devRef .tc main_arg14) (ix2 k q)) i.val : EReal) := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20,
    hostOps0_21, hostOps0_22, hostOps0_23, hostOps0_24, hostOps0_25, hostOps0_26, hostOps0_27, hostOps0_28, hostOps0_29, hostOps0_30,
    hostOps0_31, hostOps0_32, hostOps0_33, hostOps0_34, hostOps0_35, hostOps0_36, List.flatten_cons, List.flatten_nil, List.cons_append,
    List.nil_append, List.append_nil]
  entry_read
  clean_types
  simp only [StableHlo.TRef.ofBuf, StableHlo.TRef.toBuf, cast_eq]
  clean_types
  pointwise []
  simp only [front, piece, zero_pad]

/-- The small vectors, side by side. -/
theorem small_at (i : Fin 2048) : (V m c main_v29 : FVec Ideal S1x2048 .f32) (ix2 (0 : Fin 1) i)
    = (front 96 (fun k => m (c, Proc.devRef .tc main_arg2) (ix3 (⟨k.val / 3, by omega⟩ : Fin 32) (0 : Fin 1) (⟨k.val % 3, by omega⟩ : Fin 3))) i.val
        + piece 128 32 (fun k => m (c, Proc.devRef .tc main_arg3) (ix1 k)) i.val + piece 256 64 (fun k => m (c, Proc.devRef .tc main_arg8) (ix1 k)) i.val
        + piece 384 256 (fun k => m (c, Proc.devRef .tc main_arg13) (ix1 k)) i.val
        + piece 640 96 (fun k => m (c, Proc.devRef .tc main_arg4) (ix3 (⟨k.val / 3, by omega⟩ : Fin 32) (0 : Fin 1) (⟨k.val % 3, by omega⟩ : Fin 3))) i.val
        + piece 768 32 (fun k => m (c, Proc.devRef .tc main_arg5) (ix1 k)) i.val + piece 896 64 (fun k => m (c, Proc.devRef .tc main_arg11) (ix1 k)) i.val
        + piece 1024 256 (fun k => m (c, Proc.devRef .tc main_arg15) (ix1 k)) i.val
        + piece 1280 256 (fun k => m (c, Proc.devRef .tc main_arg16) (ix2 k (0 : Fin 1))) i.val + piece 1536 256 (fun k => m (c, Proc.devRef .tc main_arg18) (ix2 k (0 : Fin 1))) i.val
        + piece 1792 1 (fun k => m (c, Proc.devRef .tc main_arg17) (ix1 k)) i.val + piece 1793 1 (fun k => m (c, Proc.devRef .tc main_arg19) (ix1 k)) i.val : EReal) := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20,
    hostOps0_21, hostOps0_22, hostOps0_23, hostOps0_24, hostOps0_25, hostOps0_26, hostOps0_27, hostOps0_28, hostOps0_29, hostOps0_30,
    hostOps0_31, hostOps0_32, hostOps0_33, hostOps0_34, hostOps0_35, hostOps0_36, List.flatten_cons, List.flatten_nil, List.cons_append,
    List.nil_append, List.append_nil]
  entry_read
  clean_types
  simp only [StableHlo.TRef.ofBuf, StableHlo.TRef.toBuf, cast_eq]
  clean_types
  pointwise []
  simp only [front, piece, zero_pad]

/-- Where the head's weights and biases are. -/
theorem attn_at (q : Fin 256) : (V m c main_v29 : FVec Ideal S1x2048 .f32) (ix2 (0 : Fin 1) (⟨1280 + q.val, by omega⟩ : Fin 2048))
    = m (c, Proc.devRef .tc main_arg16) (ix2 q (0 : Fin 1)) := by
  have h : (1280 + q.val) = 1280 + q.val := rfl
  rw [small_at, piece_in _ q h]
  simp (disch := omega) only [front_out, piece_out, zero_add, add_zero]

/-- The last layer's weights, in the packed row. -/
theorem fc_at (q : Fin 256) : (V m c main_v29 : FVec Ideal S1x2048 .f32) (ix2 (0 : Fin 1) (⟨1536 + q.val, by omega⟩ : Fin 2048))
    = m (c, Proc.devRef .tc main_arg18) (ix2 q (0 : Fin 1)) := by
  have h : (1536 + q.val) = 1536 + q.val := rfl
  rw [small_at, piece_in _ q h]
  simp (disch := omega) only [front_out, piece_out, zero_add, add_zero]

/-- The attention's bias, in the packed row. -/
theorem attn_bias : (V m c main_v29 : FVec Ideal S1x2048 .f32) (ix2 (0 : Fin 1) (1792 : Fin 2048)) = m (c, Proc.devRef .tc main_arg17) (ix1 (0 : Fin 1)) := by
  have h : ((1792 : Fin 2048)).val = 1792 + (0 : Fin 1).val := rfl
  rw [small_at, piece_in _ 0 h]
  simp (disch := omega) only [front_out, piece_out, zero_add, add_zero]

/-- The last layer's bias, in the packed row. -/
theorem fc_bias : (V m c main_v29 : FVec Ideal S1x2048 .f32) (ix2 (0 : Fin 1) (1793 : Fin 2048)) = m (c, Proc.devRef .tc main_arg19) (ix1 (0 : Fin 1)) := by
  have h : ((1793 : Fin 2048)).val = 1793 + (0 : Fin 1).val := rfl
  rw [small_at, piece_in _ 0 h]
  simp (disch := omega) only [front_out, piece_out, zero_add, add_zero]

/-- The packed buffers hold the first branch's real weights. -/
theorem held_ecc {a : Weights 15}
    (hw : ∀ (k : Fin 32) (t : Fin 3), m (c, Proc.devRef .tc main_arg2) (ix3 k (0 : Fin 1) t) = (a.w k t : EReal))
    (hb : ∀ k : Fin 32, m (c, Proc.devRef .tc main_arg3) (ix1 k) = (a.b k : EReal))
    (hg : ∀ o : Fin 64, m (c, Proc.devRef .tc main_arg8) (ix1 o) = (a.gb o : EReal))
    (h0 : ∀ (f : Fin 800) (o : Fin 64), m (c, Proc.devRef .tc main_arg6) (ix2 f o) = (a.W0 f o : EReal))
    (h1 : ∀ (f : Fin 800) (o : Fin 64), m (c, Proc.devRef .tc main_arg7) (ix2 f o) = (a.W1 f o : EReal))
    (hP : ∀ (v : Fin 16) (o : Fin 64) (q : Fin 256),
      m (c, Proc.devRef .tc main_arg12) (ix2 (⟨64 * v.val + o.val, by omega⟩ : Fin 1024) q) = (a.P v o q : EReal)) :
    Held 15 0 0 0 (V m c main_v29) (V m c main_v36) (V m c main_v39) a (fun q => m (c, Proc.devRef .tc main_arg13) (ix1 q)) where
  w k t i hi := by
    refine (small_at m c i).trans ?_
    have hj : i.val = (⟨3 * k.val + t.val, by omega⟩ : Fin 96).val := by show i.val = (3 * k.val + t.val); omega
    rw [front_in _ _ hj]
    simp (disch := omega) only [front_out, piece_out, zero_add, add_zero]
    have i1 : (⟨(3 * k.val + t.val) / 3, by omega⟩ : Fin 32) = k := Fin.ext (by show (3 * k.val + t.val) / 3 = k.val; omega)
    have i2 : (⟨(3 * k.val + t.val) % 3, by omega⟩ : Fin 3) = t := Fin.ext (by show (3 * k.val + t.val) % 3 = t.val; omega)
    rw [i1, i2]
    exact hw k t
  b k i hi := by
    refine (small_at m c i).trans ?_
    rw [piece_in (lo := 128) (n := 32) _ k (by omega)]
    simp (disch := omega) only [front_out, piece_out, zero_add, add_zero]
    exact hb k
  gb o i hi := by
    refine (small_at m c i).trans ?_
    rw [piece_in (lo := 256) (n := 64) _ o (by omega)]
    simp (disch := omega) only [front_out, piece_out, zero_add, add_zero]
    exact hg o
  pb q i hi := by
    refine (small_at m c i).trans ?_
    rw [piece_in (lo := 384) (n := 256) _ q (by omega)]
    simp (disch := omega) only [front_out, piece_out, zero_add, add_zero]
  W0 f o i hi := by
    refine (graph_at m c f i).trans ?_
    rw [front_in (n := 64) _ o (by omega)]
    simp (disch := omega) only [front_out, piece_out, zero_add, add_zero]
    exact h0 f o
  W1 f o i hi := by
    refine (graph_at m c f i).trans ?_
    rw [piece_in (lo := 64) (n := 64) _ o (by omega)]
    simp (disch := omega) only [front_out, piece_out, zero_add, add_zero]
    exact h1 f o
  P v o q i hi := by
    refine (proj_at m c i q).trans ?_
    have hj : i.val = (⟨64 * v.val + o.val, by omega⟩ : Fin 1024).val := by show i.val = (64 * v.val + o.val); omega
    rw [front_in _ _ hj]
    simp (disch := omega) only [front_out, piece_out, zero_add, add_zero]
    exact hP v o q

/-- The packed buffers hold the second branch's real weights. -/
theorem held_err {a : Weights 11}
    (hw : ∀ (k : Fin 32) (t : Fin 3), m (c, Proc.devRef .tc main_arg4) (ix3 k (0 : Fin 1) t) = (a.w k t : EReal))
    (hb : ∀ k : Fin 32, m (c, Proc.devRef .tc main_arg5) (ix1 k) = (a.b k : EReal))
    (hg : ∀ o : Fin 64, m (c, Proc.devRef .tc main_arg11) (ix1 o) = (a.gb o : EReal))
    (h0 : ∀ (f : Fin 800) (o : Fin 64), m (c, Proc.devRef .tc main_arg9) (ix2 f o) = (a.W0 f o : EReal))
    (h1 : ∀ (f : Fin 800) (o : Fin 64), m (c, Proc.devRef .tc main_arg10) (ix2 f o) = (a.W1 f o : EReal))
    (hP : ∀ (v : Fin 12) (o : Fin 64) (q : Fin 256),
      m (c, Proc.devRef .tc main_arg14) (ix2 (⟨64 * v.val + o.val, by omega⟩ : Fin 768) q) = (a.P v o q : EReal)) :
    Held 11 640 128 1024 (V m c main_v29) (V m c main_v36) (V m c main_v39) a (fun q => m (c, Proc.devRef .tc main_arg15) (ix1 q)) where
  w k t i hi := by
    refine (small_at m c i).trans ?_
    have hj : i.val = 640 + (⟨3 * k.val + t.val, by omega⟩ : Fin 96).val := by show i.val = 640 + (3 * k.val + t.val); omega
    rw [piece_in _ _ hj]
    simp (disch := omega) only [front_out, piece_out, zero_add, add_zero]
    have i1 : (⟨(3 * k.val + t.val) / 3, by omega⟩ : Fin 32) = k := Fin.ext (by show (3 * k.val + t.val) / 3 = k.val; omega)
    have i2 : (⟨(3 * k.val + t.val) % 3, by omega⟩ : Fin 3) = t := Fin.ext (by show (3 * k.val + t.val) % 3 = t.val; omega)
    rw [i1, i2]
    exact hw k t
  b k i hi := by
    refine (small_at m c i).trans ?_
    rw [piece_in (lo := 768) (n := 32) _ k (by omega)]
    simp (disch := omega) only [front_out, piece_out, zero_add, add_zero]
    exact hb k
  gb o i hi := by
    refine (small_at m c i).trans ?_
    rw [piece_in (lo := 896) (n := 64) _ o (by omega)]
    simp (disch := omega) only [front_out, piece_out, zero_add, add_zero]
    exact hg o
  pb q i hi := by
    refine (small_at m c i).trans ?_
    rw [piece_in (lo := 1024) (n := 256) _ q (by omega)]
    simp (disch := omega) only [front_out, piece_out, zero_add, add_zero]
  W0 f o i hi := by
    refine (graph_at m c f i).trans ?_
    rw [piece_in (lo := 128) (n := 64) _ o (by omega)]
    simp (disch := omega) only [front_out, piece_out, zero_add, add_zero]
    exact h0 f o
  W1 f o i hi := by
    refine (graph_at m c f i).trans ?_
    rw [piece_in (lo := 192) (n := 64) _ o (by omega)]
    simp (disch := omega) only [front_out, piece_out, zero_add, add_zero]
    exact h1 f o
  P v o q i hi := by
    refine (proj_at m c i q).trans ?_
    have hj : i.val = 1024 + (⟨64 * v.val + o.val, by omega⟩ : Fin 768).val := by show i.val = 1024 + (64 * v.val + o.val); omega
    rw [piece_in _ _ hj]
    simp (disch := omega) only [front_out, piece_out, zero_add, add_zero]
    exact hP v o q

end Cert.KernelPack

end
-- ==== Proof.KernelRun.lean ====
/- The kernel's run. It has one grid point, and every block is its whole array: the result is the body's result on the
   packed buffers. -/
module

public import proofs.«01_k».proof.Proof.KernelHead
public import proofs.«01_k».proof.Proof.KernelPack
public import proofs.«01_k».proof.Proof.Gen.KernelIdeal.Value
public import Idealize.ShloMosaic.Lib.Pipeline.ValueKit

@[expose] public section

set_option maxRecDepth 16384

noncomputable section

namespace Cert.KernelRun

open Cert.KernelIdeal Cert.KernelIdeal.Gen Cert.RealModel Cert.KernelBranch Idealize.ShloMosaic Idealize.ShloMosaic.TcCoe Idealize.SL.Sem

variable (m : (ℓ : Loc nD τ sig) → Buf (Elt Ideal) ℓ) (c : Dev nD)

/-- Every window stays at its first block. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- A window's block is its whole array. -/
theorem read0 (A : FVec Ideal S1024x400 .f32) : ((cfg0.win 0).blk t0_0).view.read (Elt Ideal) A = A := by
  blk_ext! [idx t0_0]
theorem read1 (A : FVec Ideal S1024x300 .f32) : ((cfg0.win 1).blk t0_0).view.read (Elt Ideal) A = A := by
  blk_ext! [idx t0_0]
theorem read2 (A : FVec Ideal S1x2048 .f32) : ((cfg0.win 2).blk t0_0).view.read (Elt Ideal) A = A := by
  blk_ext! [idx t0_0]
theorem read3 (A : FVec Ideal S800x256 .f32) : ((cfg0.win 3).blk t0_0).view.read (Elt Ideal) A = A := by
  blk_ext! [idx t0_0]
theorem read4 (A : FVec Ideal S1792x256 .f32) : ((cfg0.win 4).blk t0_0).view.read (Elt Ideal) A = A := by
  blk_ext! [idx t0_0]

/-- At the one grid point each block is the array the host packed. -/
theorem block0 : iblk m c 0 t0_0 = V m c main_v40 := by
  unfold iblk
  exact read0 _
theorem block1 : iblk m c 1 t0_0 = V m c main_v41 := by
  unfold iblk
  exact read1 _
theorem block2 : iblk m c 2 t0_0 = V m c main_v29 := by
  unfold iblk
  exact read2 _
theorem block3 : iblk m c 3 t0_0 = V m c main_v36 := by
  unfold iblk
  exact read3 _
theorem block4 : iblk m c 4 t0_0 = V m c main_v39 := by
  unfold iblk
  exact read4 _

/-- After the run the result array holds the body's result on the packed arrays. -/
theorem final : (dats m 0 c).arrAt 5 cfg0.N
    = out0_5 (F := Ideal) (V m c main_v40) (V m c main_v41) (V m c main_v29) (V m c main_v36) (V m c main_v39) := by
  refine (dats m 0 c).arrAt_eq_of_after_last 5 t0_0 (by decide +kernel) _ fun j => ?_
  blk_simp
  rw [after0_5, block0, block1, block2, block3, block4]
  blk_ext [idx t0_0]

end Cert.KernelRun

end
-- ==== Proof.Graph.lean ====
/- Reading and adding rows along edges, one entry at a time.

   The reference reads each node's row at the source of every edge and adds it to the row of the edge's target. This
   file states what an entry of such a read, and of such a sum, is, for any number of nodes and of edges. -/
module

public import Idealize.ShloMosaic.Lib.Pointwise
public import Idealize.ShloMosaic.Lib.Routing.OpsPair
public import Idealize.ShloMosaic.Lib.Routing.OpsSet

@[expose] public section

set_option maxRecDepth 16384

noncomputable section

namespace Cert.Graph

open Idealize.ShloMosaic

variable {R n E F : Nat}

/-- The shape of a table of `n` rows for each of `R` samples. -/
abbrev Tab (R n F : Nat) : Shape := ⟨3, ![R, n, F]⟩
/-- The shape of a column of `E` words. -/
abbrev Col (E : Nat) : Shape := ⟨2, ![E, 1]⟩
/-- The shape of a vector. -/
abbrev Vc (E : Nat) : Shape := ⟨1, ![E]⟩

/-- Where an update of a row sum lands: its sample and feature stay, its node is the word at its edge. -/
theorem lands3 (d : ScatterDims (Tab R n F) (Col E) (Tab R E F)) (huw : d.updateWindowDims = [0, 2])
    (hiw : d.insertedWindowDims = [1]) (hsd : d.scatterDimsToOperandDims = [1]) (hiv : d.indexVectorDim = 1)
    (idx : IVec (Col E) 32) (r r' : Fin R) (e : Fin E) (f f' : Fin F) (v : Fin n) :
    d.resultIdx? (ix3 r' e f') idx = some (ix3 r v f)
      ↔ r' = r ∧ (idx (ix2 e (0 : Fin 1))).toInt = (v.val : Int) ∧ f' = f := by
  obtain ⟨uw, iw, sd, iv, wf⟩ := d
  dsimp only at huw hiw hsd hiv
  subst huw hiw hsd hiv
  rw [Routing.resultIdx?_eq_some]
  have s0 : ScatterDims.start ⟨_, _, _, _, wf⟩ (ix3 r' e f') idx (0 : Fin 3) = 0 := rfl
  have s1 : ScatterDims.start ⟨_, _, _, _, wf⟩ (ix3 r' e f') idx (1 : Fin 3) = (idx (ix2 e (0 : Fin 1))).toInt := by
    unfold ScatterDims.start
    rw [dif_pos (List.mem_singleton.2 rfl)]
    refine congrArg (fun i => (idx i).toInt) (funext fun b => ?_)
    match b with
    | ⟨0, _⟩ => rfl
    | ⟨1, _⟩ => rfl
  have s2 : ScatterDims.start ⟨_, _, _, _, wf⟩ (ix3 r' e f') idx (2 : Fin 3) = 0 := rfl
  have w0 : ScatterDims.window ⟨_, _, _, _, wf⟩ (ix3 r' e f') (0 : Fin 3) = r'.val := rfl
  have w1 : ScatterDims.window ⟨_, _, _, _, wf⟩ (ix3 r' e f') (1 : Fin 3) = 0 := rfl
  have w2 : ScatterDims.window ⟨_, _, _, _, wf⟩ (ix3 r' e f') (2 : Fin 3) = f'.val := rfl
  constructor
  · intro h
    have h0 := h (0 : Fin 3)
    have h1 := h (1 : Fin 3)
    have h2 := h (2 : Fin 3)
    rw [s0, w0] at h0
    rw [s1, w1] at h1
    rw [s2, w2] at h2
    simp only [Nat.cast_zero, add_zero, zero_add, Nat.cast_inj] at h0 h1 h2
    exact ⟨Fin.ext h0, h1, Fin.ext h2⟩
  · rintro ⟨rfl, h, rfl⟩ a
    match a with
    | ⟨0, _⟩ => exact (congrArg₂ (fun x (y : Nat) => x + (y : Int)) s0 w0).trans (zero_add _)
    | ⟨1, _⟩ => exact (congrArg₂ (fun x (y : Nat) => x + (y : Int)) s1 w1).trans ((add_zero _).trans h)
    | ⟨2, _⟩ => exact (congrArg₂ (fun x (y : Nat) => x + (y : Int)) s2 w2).trans (zero_add _)

/-- Two small words are equal as signed numbers when the numbers are equal. -/
theorem toInt_word (a b : Nat) (ha : a < 2 ^ 31) : (BitVec.ofNat 32 a).toInt = (b : Int) ↔ a = b := by
  rw [StableHlo.Predicate.toInt_ofNat_small _ ha, Nat.cast_inj]

/-- A row sum onto zeros: an entry of node `v` is the sum, over the edges whose word is `v`, of their updates' entries. -/
theorem sum3 (d : ScatterDims (Tab R n F) (Col E) (Tab R E F)) (huw : d.updateWindowDims = [0, 2])
    (hiw : d.insertedWindowDims = [1]) (hsd : d.scatterDimsToOperandDims = [1]) (hiv : d.indexVectorDim = 1)
    (x : FVec Ideal (Tab R n F) .f32) (idx : IVec (Col E) 32) (upd : FVec Ideal (Tab R E F) .f32) (dst : Fin E → Fin n)
    (hn : n < 2 ^ 31) (hd : ∀ e, idx (ix2 e (0 : Fin 1)) = BitVec.ofNat 32 (dst e).val) (r : Fin R) (v : Fin n) (f : Fin F) :
    Host.scatterAdd d x idx upd (ix3 r v f) = x (ix3 r v f) + ∑ e, if dst e = v then upd (ix3 r e f) else 0 := by
  show Ideal.hostScatterAdd d x idx upd (ix3 r v f) = _
  unfold Ideal.hostScatterAdd
  refine congrArg (x (ix3 r v f) + ·) ?_
  rw [← Finset.sum_filter]
  have hl : ∀ (r' : Fin R) (e : Fin E) (f' : Fin F), d.resultIdx? (ix3 r' e f') idx = some (ix3 r v f) ↔ r' = r ∧ dst e = v ∧ f' = f := by
    intro r' e f'
    rw [lands3 d huw hiw hsd hiv, hd, toInt_word _ _ (by omega), Fin.val_inj]
  have ej : ∀ j : (Tab R E F).Idx, ∃ (r' : Fin R) (e : Fin E) (f' : Fin F), j = ix3 r' e f' := fun j =>
    ⟨j (0 : Fin 3), j (1 : Fin 3), j (2 : Fin 3), funext fun a => match a with
      | ⟨0, _⟩ => rfl
      | ⟨1, _⟩ => rfl
      | ⟨2, _⟩ => rfl⟩
  refine (Finset.sum_bij (fun e _ => ix3 r e f) ?_ ?_ ?_ fun _ _ => rfl).symm
  · intro e he
    exact Finset.mem_filter.2 ⟨Finset.mem_univ _, (hl r e f).2 ⟨rfl, (Finset.mem_filter.1 he).2, rfl⟩⟩
  · intro e _ e' _ h
    exact congrFun h (1 : Fin 3)
  · intro j hj
    obtain ⟨r', e, f', rfl⟩ := ej j
    obtain ⟨rfl, h, rfl⟩ := (hl _ _ _).1 (Finset.mem_filter.1 hj).2
    exact ⟨e, Finset.mem_filter.2 ⟨Finset.mem_univ _, h⟩, rfl⟩

/-- The same for one number per edge. -/
theorem sum1 (d : ScatterDims (Vc n) (Col E) (Vc E)) (huw : d.updateWindowDims = [])
    (hiw : d.insertedWindowDims = [0]) (hsd : d.scatterDimsToOperandDims = [0]) (hiv : d.indexVectorDim = 1)
    (x : FVec Ideal (Vc n) .f32) (idx : IVec (Col E) 32) (upd : FVec Ideal (Vc E) .f32) (dst : Fin E → Fin n)
    (hn : n < 2 ^ 31) (hd : ∀ e, idx (ix2 e (0 : Fin 1)) = BitVec.ofNat 32 (dst e).val) (v : Fin n) :
    Host.scatterAdd d x idx upd (ix1 v) = x (ix1 v) + ∑ e, if dst e = v then upd (ix1 e) else 0 := by
  show Ideal.hostScatterAdd d x idx upd (ix1 v) = _
  unfold Ideal.hostScatterAdd
  refine congrArg (x (ix1 v) + ·) ?_
  rw [← Finset.sum_filter]
  have hl : ∀ (e : Fin E), d.resultIdx? (ix1 e) idx = some (ix1 v) ↔ dst e = v := by
    intro e
    obtain ⟨uw, iw, sd, iv, wf⟩ := d
    dsimp only at huw hiw hsd hiv
    subst huw hiw hsd hiv
    rw [Routing.resultIdx?_eq_some]
    have s0 : ScatterDims.start ⟨_, _, _, _, wf⟩ (ix1 e) idx (0 : Fin 1) = (idx (ix2 e (0 : Fin 1))).toInt := by
      unfold ScatterDims.start
      rw [dif_pos (List.mem_singleton.2 rfl)]
      refine congrArg (fun i => (idx i).toInt) (funext fun b => ?_)
      match b with
      | ⟨0, _⟩ => rfl
      | ⟨1, _⟩ => rfl
    have w0 : ScatterDims.window ⟨_, _, _, _, wf⟩ (ix1 e) (0 : Fin 1) = 0 := rfl
    constructor
    · intro h
      have h0 := h (0 : Fin 1)
      rw [s0, w0, hd] at h0
      simp only [Nat.cast_zero, add_zero] at h0
      exact Fin.ext ((toInt_word _ _ (by omega)).1 h0)
    · intro h a
      match a with
      | ⟨0, _⟩ =>
        refine (congrArg₂ (fun x (y : Nat) => x + (y : Int)) s0 w0).trans ((add_zero _).trans ?_)
        rw [hd]
        exact (toInt_word _ _ (by omega)).2 (congrArg Fin.val h)
  have ej : ∀ j : (Vc E).Idx, ∃ e : Fin E, j = ix1 e := fun j => ⟨j (0 : Fin 1), funext fun a => match a with | ⟨0, _⟩ => rfl⟩
  refine (Finset.sum_bij (fun e _ => ix1 e) ?_ ?_ ?_ fun _ _ => rfl).symm
  · intro e he
    exact Finset.mem_filter.2 ⟨Finset.mem_univ _, (hl e).2 (Finset.mem_filter.1 he).2⟩
  · intro e _ e' _ h
    exact congrFun h (0 : Fin 1)
  · intro j hj
    obtain ⟨e, rfl⟩ := ej j
    exact ⟨e, Finset.mem_filter.2 ⟨Finset.mem_univ _, (hl e).1 (Finset.mem_filter.1 hj).2⟩, rfl⟩

/-- A read along edges: row `e` of the result is the table's row at the word of edge `e`. -/
theorem take3 {α : Type} (d : GatherDims (Tab R n F) (Col E) (Tab R E F)) (hof : d.offsetDims = [0, 2]) (hcoll : d.collapsedSliceDims = [1])
    (hob : d.operandBatchingDims = []) (hsb : d.startIndicesBatchingDims = []) (hsim : d.startIndexMap = [1]) (hiv : d.indexVectorDim = 1)
    (hsl : d.sliceSizes = ![R, 1, F])
    (x : (Tab R n F).Idx → α) (idx : IVec (Col E) 32) (src : Fin E → Fin n) (hn : n < 2 ^ 31)
    (hs : ∀ e, idx (ix2 e (0 : Fin 1)) = BitVec.ofNat 32 (src e).val) (r : Fin R) (e : Fin E) (f : Fin F) :
    Host.gather d x idx (ix3 r e f) = x (ix3 r (src e) f) := by
  obtain ⟨od, cd, ob, sb, sm, iv, sl, wf⟩ := d
  dsimp only at hof hcoll hob hsb hsim hiv hsl
  subst hof hcoll hob hsb hsim hiv hsl
  refine congrArg x (funext fun a => Fin.ext ?_)
  have hi : GatherDims.siIdx ⟨_, _, _, _, _, _, _, wf⟩ (ix3 r e f) ⟨0, Nat.zero_lt_one⟩ = ix2 e (0 : Fin 1) := by
    funext b
    match b with
    | ⟨0, _⟩ => rfl
    | ⟨1, _⟩ => rfl
  match a with
  | ⟨0, _⟩ =>
    show 0 + 0 + r.val = r.val
    omega
  | ⟨1, _⟩ =>
    show min (idx (GatherDims.siIdx ⟨_, _, _, _, _, _, _, wf⟩ (ix3 r e f) ⟨0, Nat.zero_lt_one⟩)).toInt.toNat (n - 1) + 0 + 0 = (src e).val
    have := (src e).isLt
    rw [hi, hs, StableHlo.Predicate.toInt_ofNat_small _ (by omega)]
    omega
  | ⟨2, _⟩ =>
    show 0 + 0 + f.val = f.val
    omega

end Cert.Graph

end
-- ==== Proof.Ref16.lean ====
/- The reference's branch of 16 nodes, one entry at a time.

   The convolution gives every node its features. Along the ring each node has two neighbours, so every node has degree
   two and every edge weight is minus one half. Held against real arguments, an entry of the branch is the real value
   of its layers plus the projection bias. -/
module

public import proofs.«01_k».proof.Proof.Gen.ReferenceIdeal.Run
public import proofs.«01_k».proof.Proof.RealModel
public import proofs.«01_k».proof.Proof.Graph
public import proofs.«01_k».proof.Proof.Ring
public import Idealize.ShloMosaic.Lib.Pointwise
public import Idealize.ShloMosaic.Lib.Tactic.CleanTypes

@[expose] public section

set_option maxRecDepth 16384

noncomputable section

namespace Cert.Ref16

open Cert.ReferenceIdeal Cert.ReferenceIdeal.Gen Cert.ReferenceIdeal.Value Cert.RealModel Cert.Graph Cert.Ring Idealize.ShloMosaic
  Idealize.SL.Sem

/-! ## The reference's expressions, named -/

/-- Index words as the reference reads them: a negative word counts from the end. -/
def wrapped (s : IVec S32 32) : IVec S32x1 32 :=
  broadcastInDim S32x1 ![0] bcast_S32_S32x1_0 (select (cmpi .slt s (broadcastInDim S32 ![] bcast_S_S32 (constantI S_ 32 0#32)))
    (addi s (broadcastInDim S32 ![] bcast_S_S32 (constantI S_ 32 16#32))) s)

/-- The weight of every edge, from the nodes' scaling `dis`. -/
def edge (dis : FVec Ideal S16 .f32) (one : FVec Ideal S32 .f32) (s d : IVec S32 32) : FVec Ideal S32 .f32 :=
  mulf (mulf (Host.negf (Host.gather gather_S16_S32x1_S32_n_0_n_n_0_1_1 dis (wrapped s))) one)
    (Host.gather gather_S16_S32x1_S32_n_0_n_n_0_1_1 dis (wrapped d))

/-- The neighbours' features of every node, weighted and added along the edges. -/
def nbr (e : FVec Ideal S1024x16x800 .f32) (wt : FVec Ideal S32 .f32) (s d : IVec S32 32) : FVec Ideal S1024x16x800 .f32 :=
  Host.scatterAdd scatter_S1024x16x800_S32x1_S1024x32x800_02_1_1_1
    (broadcastInDim S1024x16x800 ![1, 2] bcast_S16x800_S1024x16x800_1_2 (broadcastInDim S16x800 ![] bcast_S_S16x800 (constant S_ .f32 0x00000000#32)))
    (wrapped d)
    (mulf (Host.gather gather_S1024x16x800_S32x1_S1024x32x800_02_1_n_n_1_1_10241800 e (wrapped s))
      (broadcastInDim S1024x32x800 ![0, 1, 2] bcast_S1x32x1_S1024x32x800_0_1_2
        (broadcastInDim S1x32x1 ![1, 2] bcast_S32x1_S1x32x1_1_2 (broadcastInDim S32x1 ![0] bcast_S32_S32x1_0 wt))))

/-- The graph convolution and the projection. -/
def proj (e nb : FVec Ideal S1024x16x800 .f32) (w0 w1 : FVec Ideal S800x64 .f32) (gb : FVec Ideal S64 .f32)
    (p : FVec Ideal S1024x256 .f32) (pb : FVec Ideal S256 .f32) : FVec Ideal S1024x256 .f32 :=
  addf (Host.dotGeneral dot_S1024x1024_S1024x256_S1024x256_1_0_0_1_n_n none
    (shapeCast S1024x1024 (addf (addf (Host.dotGeneral dot_S1024x16x800_S800x64_S1024x16x64_2_0_01_1_n_n none e w0)
        (Host.dotGeneral dot_S1024x16x800_S800x64_S1024x16x64_2_0_01_1_n_n none nb w1))
      (broadcastInDim S1024x16x64 ![0, 1, 2] bcast_S1x1x64_S1024x16x64_0_1_2
        (broadcastInDim S1x1x64 ![1, 2] bcast_S1x64_S1x1x64_1_2 (broadcastInDim S1x64 ![1] bcast_S64_S1x64_1 gb))))
      shapeCasts_S1024x16x64_S1024x1024) p)
    (broadcastInDim S1024x256 ![0, 1] bcast_S1x256_S1024x256_0_1 (broadcastInDim S1x256 ![1] bcast_S256_S1x256_1 pb))

variable (V0 : Valuation τ sig (Elt Ideal))

/-- The branch's result, in the named expressions. -/
theorem branch_eq : res_main_v194 (F := Ideal) V0
    = proj (res_main_v31 V0) (nbr (res_main_v31 V0) (edge (res_main_v50 V0) (res_main_v36 V0) (res_main_v33 V0) (res_main_v35 V0))
        (res_main_v33 V0) (res_main_v35 V0)) (V0 (Proc.devRef .tc main_arg6)) (V0 (Proc.devRef .tc main_arg7))
        (V0 (Proc.devRef .tc main_arg8)) (V0 (Proc.devRef .tc main_arg12)) (V0 (Proc.devRef .tc main_arg13)) := rfl

/-! ## Edges -/

/-- A word that names a node is read as that node. -/
theorem wrapped_at (s : IVec S32 32) (src : Fin 32 → Fin 16) (hs : ∀ e, s (ix1 e) = BitVec.ofNat 32 (src e).val) (e : Fin 32) :
    wrapped s (ix2 e (0 : Fin 1)) = BitVec.ofNat 32 (src e).val := by
  have h : wrapped s (ix2 e (0 : Fin 1)) = Scalar.select (IntOp.cmpi .slt (s (ix1 e)) 0#32) (s (ix1 e) + 16#32) (s (ix1 e)) := by
    pointwise [wrapped]
    rfl
  rw [h, hs]
  refine Routing.wrap_of_lt _ _ ?_
  have := (src e).isLt
  rw [BitVec.toNat_ofNat, Nat.mod_eq_of_lt (by omega)]
  omega

/-- The arrays hold real weights, real inputs and the ring's edges. -/
structure Held (a : Weights 15) (x : Fin 1024 → Fin 16 → Fin 25 → ℝ) : Prop where
  x : ∀ (r : Fin 1024) (v : Fin 16) (t : Fin 25), V0 (Proc.devRef .tc main_arg0) (ix3 r v t) = (x r v t : EReal)
  w : ∀ (c : Fin 32) (k : Fin 3), V0 (Proc.devRef .tc main_arg2) (ix3 c (0 : Fin 1) k) = (a.w c k : EReal)
  b : ∀ c : Fin 32, V0 (Proc.devRef .tc main_arg3) (ix1 c) = (a.b c : EReal)
  W0 : ∀ (f : Fin 800) (o : Fin 64), V0 (Proc.devRef .tc main_arg6) (ix2 f o) = (a.W0 f o : EReal)
  W1 : ∀ (f : Fin 800) (o : Fin 64), V0 (Proc.devRef .tc main_arg7) (ix2 f o) = (a.W1 f o : EReal)
  gb : ∀ o : Fin 64, V0 (Proc.devRef .tc main_arg8) (ix1 o) = (a.gb o : EReal)
  P : ∀ (v : Fin 16) (o : Fin 64) (q : Fin 256),
    V0 (Proc.devRef .tc main_arg12) (ix2 (⟨64 * v.val + o.val, by omega⟩ : Fin 1024) q) = (a.P v o q : EReal)
  src : ∀ e : Fin 32, V0 (Proc.devRef .tc main_arg20) (ix2 (0 : Fin 2) e) = BitVec.ofNat 32 (src16 e).val
  dst : ∀ e : Fin 32, V0 (Proc.devRef .tc main_arg20) (ix2 (1 : Fin 2) e) = BitVec.ofNat 32 (dst16 e).val

variable {V0} {a : Weights 15} {x : Fin 1024 → Fin 16 → Fin 25 → ℝ} (h : Held V0 a x)

include h

/-- The reference's sources are the ring's. -/
theorem src_at (e : Fin 32) : res_main_v33 (F := Ideal) V0 (ix1 e) = BitVec.ofNat 32 (src16 e).val := by
  unfold res_main_v33
  clean_types
  pointwise []
  exact h.src e

/-- The reference's targets are the ring's. -/
theorem dst_at (e : Fin 32) : res_main_v35 (F := Ideal) V0 (ix1 e) = BitVec.ofNat 32 (dst16 e).val := by
  unfold res_main_v35
  clean_types
  pointwise []
  exact h.dst e

/-- Every node has degree two. -/
theorem deg_at (v : Fin 16) : res_main_v44 (F := Ideal) V0 (ix1 v) = ((2 : ℝ) : EReal) := by
  have e : res_main_v44 (F := Ideal) V0 = Host.scatterAdd scatter_S16_S32x1_S32_n_0_0_1
      (broadcastInDim S16 ![] bcast_S_S16 (constant S_ .f32 0x00000000#32)) (wrapped (res_main_v33 V0)) (res_main_v36 V0) := rfl
  rw [e]
  refine (sum1 scatter_S16_S32x1_S32_n_0_0_1 rfl rfl rfl rfl _ _ _ src16 (by norm_num) (wrapped_at _ _ (src_at h)) v).trans ?_
  have e0 : (broadcastInDim S16 ![] bcast_S_S16 (constant S_ .f32 0x00000000#32) : FVec Ideal S16 .f32) (ix1 v) = 0 := by pointwise []
  have e1 : ∀ k : Fin 32, res_main_v36 (F := Ideal) V0 (ix1 k) = (1 : EReal) := by
    intro k
    unfold res_main_v36
    clean_types
    pointwise []
  rw [e0, zero_add]
  exact (Finset.sum_congr rfl fun k _ => by rw [e1]).trans (degree16 v)

/-- The scaling of every node. -/
theorem dis_at (v : Fin 16) : res_main_v50 (F := Ideal) V0 (ix1 v) = (((Real.sqrt 2)⁻¹ : ℝ) : EReal) := by
  have e : ∀ d : EReal, res_main_v44 (F := Ideal) V0 (ix1 v) = d → res_main_v50 (F := Ideal) V0 (ix1 v)
      = (if 0 < d then Ideal.div 1 (Ideal.sqrt d) else (id (constant S_ .f32 0#32) : FVec Ideal S_ .f32) ix0 : EReal) := by
    rintro _ rfl
    unfold res_main_v50
    clean_types
    pointwise []
  rw [e _ (deg_at h v)]
  exact scale_two _

/-- Every edge's weight is minus one half. -/
theorem edge_at (e : Fin 32) : edge (res_main_v50 V0) (res_main_v36 V0) (res_main_v33 V0) (res_main_v35 V0) (ix1 e) = ((-(1 / 2) : ℝ) : EReal) := by
  have e1 : ∀ k : Fin 32, res_main_v36 (F := Ideal) V0 (ix1 k) = (1 : EReal) := by
    intro k
    unfold res_main_v36
    clean_types
    pointwise []
  have ht : ∀ (s : IVec S32 32) (src : Fin 32 → Fin 16), (∀ e, s (ix1 e) = BitVec.ofNat 32 (src e).val) →
      Host.gather gather_S16_S32x1_S32_n_0_n_n_0_1_1 (res_main_v50 (F := Ideal) V0) (wrapped s) (ix1 e) = (((Real.sqrt 2)⁻¹ : ℝ) : EReal) :=
    fun s src hs => (Routing.gather_take1 gather_S16_S32x1_S32_n_0_n_n_0_1_1 rfl rfl rfl rfl _ _ e (src e) (wrapped_at s src hs e) (by norm_num)).trans
      (dis_at h (src e))
  have e2 : edge (res_main_v50 V0) (res_main_v36 V0) (res_main_v33 V0) (res_main_v35 V0) (ix1 e)
      = -(Host.gather gather_S16_S32x1_S32_n_0_n_n_0_1_1 (res_main_v50 (F := Ideal) V0) (wrapped (res_main_v33 V0)) (ix1 e) : EReal)
        * res_main_v36 (F := Ideal) V0 (ix1 e)
        * Host.gather gather_S16_S32x1_S32_n_0_n_n_0_1_1 (res_main_v50 (F := Ideal) V0) (wrapped (res_main_v35 V0)) (ix1 e) := rfl
  rw [e2, e1, ht _ _ (src_at h), ht _ _ (dst_at h)]
  exact minus_half

/-! ## Layers -/

/-- The convolution's features. -/
theorem feat_at (r : Fin 1024) (v : Fin 16) (f : Fin 800) :
    res_main_v31 (F := Ideal) V0 (ix3 r v f) = (feat (x r) (tap a.w) (fun f => a.b (chan f)) v f : EReal) := by
  have hp : ∀ (j : Fin 27) (i : Fin 16384), i.val = r.val * 16 + v.val → res_main_v1 (F := Ideal) V0 (ix2 i j) = (padded (x r v) j.val : EReal) := by
    intro j i hi
    have e : res_main_v1 (F := Ideal) V0 (ix2 i j) = if g : 1 ≤ j.val ∧ j.val - 1 < 25 then
        V0 (Proc.devRef .tc main_arg0) (ix3 (⟨i.val / 16, by omega⟩ : Fin 1024) (⟨i.val % 16, by omega⟩ : Fin 16) (⟨j.val - 1, g.2⟩ : Fin 25))
        else FloatOps.sitofp (F := Ideal) .f32 0#32 := by
      unfold res_main_v1
      clean_types
      pointwise []
    have i1 : (⟨i.val / 16, by omega⟩ : Fin 1024) = r := Fin.ext (by show i.val / 16 = r.val; omega)
    have i2 : (⟨i.val % 16, by omega⟩ : Fin 16) = v := Fin.ext (by show i.val % 16 = v.val; omega)
    rw [e, padded]
    by_cases g : 1 ≤ j.val ∧ j.val < 26
    · rw [dif_pos ⟨g.1, by omega⟩, dif_pos g, i1, i2]
      exact h.x r v _
    · rw [dif_neg (by omega), dif_neg g]
      exact zero_word
  have e : ∀ p0 p1 p2 k0 k1 k2 b : EReal,
      res_main_v1 (F := Ideal) V0 (ix2 (⟨r.val * 16 + v.val, by omega⟩ : Fin 16384) (⟨f.val % 25, by omega⟩ : Fin 27)) = p0 →
      res_main_v1 (F := Ideal) V0 (ix2 (⟨r.val * 16 + v.val, by omega⟩ : Fin 16384) (⟨1 + f.val % 25, by omega⟩ : Fin 27)) = p1 →
      res_main_v1 (F := Ideal) V0 (ix2 (⟨r.val * 16 + v.val, by omega⟩ : Fin 16384) (⟨2 + f.val % 25, by omega⟩ : Fin 27)) = p2 →
      V0 (Proc.devRef .tc main_arg2) (ix3 (⟨f.val / 25, by omega⟩ : Fin 32) (0 : Fin 1) (0 : Fin 3)) = k0 →
      V0 (Proc.devRef .tc main_arg2) (ix3 (⟨f.val / 25, by omega⟩ : Fin 32) (0 : Fin 1) (1 : Fin 3)) = k1 →
      V0 (Proc.devRef .tc main_arg2) (ix3 (⟨f.val / 25, by omega⟩ : Fin 32) (0 : Fin 1) (2 : Fin 3)) = k2 →
      V0 (Proc.devRef .tc main_arg3) (ix1 (⟨f.val / 25, by omega⟩ : Fin 32)) = b →
      res_main_v31 (F := Ideal) V0 (ix3 r v f) = p0 * k0 + p1 * k1 + p2 * k2 + b := by
    rintro _ _ _ _ _ _ _ rfl rfl rfl rfl rfl rfl rfl
    unfold res_main_v31
    clean_types
    pointwise []
  rw [e _ _ _ _ _ _ _ (hp _ _ rfl) (hp _ _ rfl) (hp _ _ rfl) (h.w _ _) (h.w _ _) (h.w _ _) (h.b _), feat, ← conv_eq]
  simp only [← EReal.coe_mul, ← EReal.coe_add, add_comm 1, add_comm 2, add_zero]
  rfl

/-- The neighbours' features: minus half the sum over the two neighbours. -/
theorem nbr_at (r : Fin 1024) (v : Fin 16) (f : Fin 800) :
    nbr (res_main_v31 V0) (edge (res_main_v50 V0) (res_main_v36 V0) (res_main_v33 V0) (res_main_v35 V0)) (res_main_v33 V0) (res_main_v35 V0) (ix3 r v f)
      = ((-(1 / 2) * (feat (x r) (tap a.w) (fun f => a.b (chan f)) ((succ 15).symm v) f
          + feat (x r) (tap a.w) (fun f => a.b (chan f)) ((succ 15) v) f) : ℝ) : EReal) := by
  refine (sum3 scatter_S1024x16x800_S32x1_S1024x32x800_02_1_1_1 rfl rfl rfl rfl _ _ _ dst16 (by norm_num) (wrapped_at _ _ (dst_at h)) r v f).trans ?_
  have e0 : (broadcastInDim S1024x16x800 ![1, 2] bcast_S16x800_S1024x16x800_1_2
      (broadcastInDim S16x800 ![] bcast_S_S16x800 (constant S_ .f32 0x00000000#32)) : FVec Ideal S1024x16x800 .f32) (ix3 r v f) = 0 := by
    pointwise []
  rw [e0, zero_add]
  have e1 : ∀ k : Fin 32, (mulf (Host.gather gather_S1024x16x800_S32x1_S1024x32x800_02_1_n_n_1_1_10241800 (res_main_v31 V0) (wrapped (res_main_v33 V0)))
      (broadcastInDim S1024x32x800 ![0, 1, 2] bcast_S1x32x1_S1024x32x800_0_1_2 (broadcastInDim S1x32x1 ![1, 2] bcast_S32x1_S1x32x1_1_2
        (broadcastInDim S32x1 ![0] bcast_S32_S32x1_0 (edge (res_main_v50 V0) (res_main_v36 V0) (res_main_v33 V0) (res_main_v35 V0)))))
        : FVec Ideal S1024x32x800 .f32) (ix3 r k f)
      = ((feat (x r) (tap a.w) (fun f => a.b (chan f)) (src16 k) f * -(1 / 2) : ℝ) : EReal) := by
    intro k
    have g := take3 gather_S1024x16x800_S32x1_S1024x32x800_02_1_n_n_1_1_10241800 rfl rfl rfl rfl rfl rfl rfl (res_main_v31 (F := Ideal) V0)
      (wrapped (res_main_v33 V0)) src16 (by norm_num) (wrapped_at _ _ (src_at h)) r k f
    rw [EReal.coe_mul]
    refine congrArg₂ (fun p q : EReal => p * q) (g.trans (feat_at h r (src16 k) f)) ?_
    have ge : ∀ wt : FVec Ideal S32 .f32, (broadcastInDim S1024x32x800 ![0, 1, 2] bcast_S1x32x1_S1024x32x800_0_1_2 (broadcastInDim S1x32x1 ![1, 2]
        bcast_S32x1_S1x32x1_1_2 (broadcastInDim S32x1 ![0] bcast_S32_S32x1_0 wt)) : FVec Ideal S1024x32x800 .f32) (ix3 r k f) = wt (ix1 k) := by
      intro wt
      pointwise []
    exact (ge _).trans (edge_at h k)
  refine (Finset.sum_congr rfl fun k _ => by rw [e1]).trans
    ((ring16 (fun u => ((feat (x r) (tap a.w) (fun f => a.b (chan f)) u f * -(1 / 2) : ℝ) : EReal)) v).trans ?_)
  rw [← EReal.coe_add]
  refine congrArg _ ?_
  have n0 : (succ 15).symm v = v - 1 := by rw [sub_eq_add_neg]; rfl
  have n1 : (succ 15) v = v + 1 := rfl
  rw [n0, n1]
  ring

/-- An entry of the branch is the real value of its layers, plus the projection bias. -/
theorem branch_real (r : Fin 1024) (q : Fin 256) :
    res_main_v194 (F := Ideal) V0 (ix2 r q) = (a.layers (x r) q : EReal) + V0 (Proc.devRef .tc main_arg13) (ix1 q) := by
  have e : ∀ (e nb : FVec Ideal S1024x16x800 .f32) (w0 w1 : FVec Ideal S800x64 .f32) (gb : FVec Ideal S64 .f32)
      (p : FVec Ideal S1024x256 .f32) (pb : FVec Ideal S256 .f32), proj e nb w0 w1 gb p pb (ix2 r q)
      = (∑ i : Fin 1024, ((∑ f, e (ix3 r (⟨i.val / 64, by omega⟩ : Fin 16) f) * w0 (ix2 f (⟨i.val % 64, by omega⟩ : Fin 64)))
          + (∑ f, nb (ix3 r (⟨i.val / 64, by omega⟩ : Fin 16) f) * w1 (ix2 f (⟨i.val % 64, by omega⟩ : Fin 64)))
          + gb (ix1 (⟨i.val % 64, by omega⟩ : Fin 64))) * p (ix2 i q)) + pb (ix1 q) := by
    intro e nb w0 w1 gb p pb
    pointwise [proj]
  rw [branch_eq, e, sum1024, Weights.layers]
  refine congrArg (· + _) ?_
  rw [coe_sum]
  refine Finset.sum_congr rfl fun v _ => ?_
  rw [coe_sum]
  refine Finset.sum_congr rfl fun o _ => ?_
  have i1 : (⟨(64 * v.val + o.val) / 64, by omega⟩ : Fin 16) = v := Fin.ext (by show (64 * v.val + o.val) / 64 = v.val; omega)
  have i2 : (⟨(64 * v.val + o.val) % 64, by omega⟩ : Fin 64) = o := Fin.ext (by show (64 * v.val + o.val) % 64 = o.val; omega)
  dsimp only
  rw [i1, i2, h.P, h.gb, EReal.coe_mul, gcn, EReal.coe_add, EReal.coe_add, coe_sum, coe_sum]
  refine congrArg (fun z : EReal => (z + _) * _) ?_
  refine congrArg₂ (fun p q : EReal => p + q) (Finset.sum_congr rfl fun f _ => ?_) (Finset.sum_congr rfl fun f _ => ?_)
  · rw [feat_at h, h.W0, ← EReal.coe_mul]
  · rw [nbr_at h, h.W1, ← EReal.coe_mul]

end Cert.Ref16

end
-- ==== Proof.Ref12.lean ====
/- The reference's branch of 12 nodes, one entry at a time.

   The convolution gives every node its features. Along the ring each node has two neighbours, so every node has degree
   two and every edge weight is minus one half. Held against real arguments, an entry of the branch is the real value
   of its layers plus the projection bias. -/
module

public import proofs.«01_k».proof.Proof.Gen.ReferenceIdeal.Run
public import proofs.«01_k».proof.Proof.RealModel
public import proofs.«01_k».proof.Proof.Graph
public import proofs.«01_k».proof.Proof.Ring
public import Idealize.ShloMosaic.Lib.Pointwise
public import Idealize.ShloMosaic.Lib.Tactic.CleanTypes

@[expose] public section

set_option maxRecDepth 16384

noncomputable section

namespace Cert.Ref12

open Cert.ReferenceIdeal Cert.ReferenceIdeal.Gen Cert.ReferenceIdeal.Value Cert.RealModel Cert.Graph Cert.Ring Idealize.ShloMosaic
  Idealize.SL.Sem

/-! ## The reference's expressions, named -/

/-- Index words as the reference reads them: a negative word counts from the end. -/
def wrapped (s : IVec S24 32) : IVec S24x1 32 :=
  broadcastInDim S24x1 ![0] bcast_S24_S24x1_0 (select (cmpi .slt s (broadcastInDim S24 ![] bcast_S_S24 (constantI S_ 32 0#32)))
    (addi s (broadcastInDim S24 ![] bcast_S_S24 (constantI S_ 32 12#32))) s)

/-- The weight of every edge, from the nodes' scaling `dis`. -/
def edge (dis : FVec Ideal S12 .f32) (one : FVec Ideal S24 .f32) (s d : IVec S24 32) : FVec Ideal S24 .f32 :=
  mulf (mulf (Host.negf (Host.gather gather_S12_S24x1_S24_n_0_n_n_0_1_1 dis (wrapped s))) one)
    (Host.gather gather_S12_S24x1_S24_n_0_n_n_0_1_1 dis (wrapped d))

/-- The neighbours' features of every node, weighted and added along the edges. -/
def nbr (e : FVec Ideal S1024x12x800 .f32) (wt : FVec Ideal S24 .f32) (s d : IVec S24 32) : FVec Ideal S1024x12x800 .f32 :=
  Host.scatterAdd scatter_S1024x12x800_S24x1_S1024x24x800_02_1_1_1
    (broadcastInDim S1024x12x800 ![1, 2] bcast_S12x800_S1024x12x800_1_2 (broadcastInDim S12x800 ![] bcast_S_S12x800 (constant S_ .f32 0x00000000#32)))
    (wrapped d)
    (mulf (Host.gather gather_S1024x12x800_S24x1_S1024x24x800_02_1_n_n_1_1_10241800 e (wrapped s))
      (broadcastInDim S1024x24x800 ![0, 1, 2] bcast_S1x24x1_S1024x24x800_0_1_2
        (broadcastInDim S1x24x1 ![1, 2] bcast_S24x1_S1x24x1_1_2 (broadcastInDim S24x1 ![0] bcast_S24_S24x1_0 wt))))

/-- The graph convolution and the projection. -/
def proj (e nb : FVec Ideal S1024x12x800 .f32) (w0 w1 : FVec Ideal S800x64 .f32) (gb : FVec Ideal S64 .f32)
    (p : FVec Ideal S768x256 .f32) (pb : FVec Ideal S256 .f32) : FVec Ideal S1024x256 .f32 :=
  addf (Host.dotGeneral dot_S1024x768_S768x256_S1024x256_1_0_0_1_n_n none
    (shapeCast S1024x768 (addf (addf (Host.dotGeneral dot_S1024x12x800_S800x64_S1024x12x64_2_0_01_1_n_n none e w0)
        (Host.dotGeneral dot_S1024x12x800_S800x64_S1024x12x64_2_0_01_1_n_n none nb w1))
      (broadcastInDim S1024x12x64 ![0, 1, 2] bcast_S1x1x64_S1024x12x64_0_1_2
        (broadcastInDim S1x1x64 ![1, 2] bcast_S1x64_S1x1x64_1_2 (broadcastInDim S1x64 ![1] bcast_S64_S1x64_1 gb))))
      shapeCasts_S1024x12x64_S1024x768) p)
    (broadcastInDim S1024x256 ![0, 1] bcast_S1x256_S1024x256_0_1 (broadcastInDim S1x256 ![1] bcast_S256_S1x256_1 pb))

variable (V0 : Valuation τ sig (Elt Ideal))

/-- The branch's result, in the named expressions. -/
theorem branch_eq : res_main_v199 (F := Ideal) V0
    = proj (res_main_v126 V0) (nbr (res_main_v126 V0) (edge (res_main_v145 V0) (res_main_v131 V0) (res_main_v128 V0) (res_main_v130 V0))
        (res_main_v128 V0) (res_main_v130 V0)) (V0 (Proc.devRef .tc main_arg9)) (V0 (Proc.devRef .tc main_arg10))
        (V0 (Proc.devRef .tc main_arg11)) (V0 (Proc.devRef .tc main_arg14)) (V0 (Proc.devRef .tc main_arg15)) := rfl

/-! ## Edges -/

/-- A word that names a node is read as that node. -/
theorem wrapped_at (s : IVec S24 32) (src : Fin 24 → Fin 12) (hs : ∀ e, s (ix1 e) = BitVec.ofNat 32 (src e).val) (e : Fin 24) :
    wrapped s (ix2 e (0 : Fin 1)) = BitVec.ofNat 32 (src e).val := by
  have h : wrapped s (ix2 e (0 : Fin 1)) = Scalar.select (IntOp.cmpi .slt (s (ix1 e)) 0#32) (s (ix1 e) + 12#32) (s (ix1 e)) := by
    pointwise [wrapped]
    rfl
  rw [h, hs]
  refine Routing.wrap_of_lt _ _ ?_
  have := (src e).isLt
  rw [BitVec.toNat_ofNat, Nat.mod_eq_of_lt (by omega)]
  omega

/-- The arrays hold real weights, real inputs and the ring's edges. -/
structure Held (a : Weights 11) (x : Fin 1024 → Fin 12 → Fin 25 → ℝ) : Prop where
  x : ∀ (r : Fin 1024) (v : Fin 12) (t : Fin 25), V0 (Proc.devRef .tc main_arg1) (ix3 r v t) = (x r v t : EReal)
  w : ∀ (c : Fin 32) (k : Fin 3), V0 (Proc.devRef .tc main_arg4) (ix3 c (0 : Fin 1) k) = (a.w c k : EReal)
  b : ∀ c : Fin 32, V0 (Proc.devRef .tc main_arg5) (ix1 c) = (a.b c : EReal)
  W0 : ∀ (f : Fin 800) (o : Fin 64), V0 (Proc.devRef .tc main_arg9) (ix2 f o) = (a.W0 f o : EReal)
  W1 : ∀ (f : Fin 800) (o : Fin 64), V0 (Proc.devRef .tc main_arg10) (ix2 f o) = (a.W1 f o : EReal)
  gb : ∀ o : Fin 64, V0 (Proc.devRef .tc main_arg11) (ix1 o) = (a.gb o : EReal)
  P : ∀ (v : Fin 12) (o : Fin 64) (q : Fin 256),
    V0 (Proc.devRef .tc main_arg14) (ix2 (⟨64 * v.val + o.val, by omega⟩ : Fin 768) q) = (a.P v o q : EReal)
  src : ∀ e : Fin 24, V0 (Proc.devRef .tc main_arg21) (ix2 (0 : Fin 2) e) = BitVec.ofNat 32 (src12 e).val
  dst : ∀ e : Fin 24, V0 (Proc.devRef .tc main_arg21) (ix2 (1 : Fin 2) e) = BitVec.ofNat 32 (dst12 e).val

variable {V0} {a : Weights 11} {x : Fin 1024 → Fin 12 → Fin 25 → ℝ} (h : Held V0 a x)

include h

/-- The reference's sources are the ring's. -/
theorem src_at (e : Fin 24) : res_main_v128 (F := Ideal) V0 (ix1 e) = BitVec.ofNat 32 (src12 e).val := by
  unfold res_main_v128
  clean_types
  pointwise []
  exact h.src e

/-- The reference's targets are the ring's. -/
theorem dst_at (e : Fin 24) : res_main_v130 (F := Ideal) V0 (ix1 e) = BitVec.ofNat 32 (dst12 e).val := by
  unfold res_main_v130
  clean_types
  pointwise []
  exact h.dst e

/-- Every node has degree two. -/
theorem deg_at (v : Fin 12) : res_main_v139 (F := Ideal) V0 (ix1 v) = ((2 : ℝ) : EReal) := by
  have e : res_main_v139 (F := Ideal) V0 = Host.scatterAdd scatter_S12_S24x1_S24_n_0_0_1
      (broadcastInDim S12 ![] bcast_S_S12 (constant S_ .f32 0x00000000#32)) (wrapped (res_main_v128 V0)) (res_main_v131 V0) := rfl
  rw [e]
  refine (sum1 scatter_S12_S24x1_S24_n_0_0_1 rfl rfl rfl rfl _ _ _ src12 (by norm_num) (wrapped_at _ _ (src_at h)) v).trans ?_
  have e0 : (broadcastInDim S12 ![] bcast_S_S12 (constant S_ .f32 0x00000000#32) : FVec Ideal S12 .f32) (ix1 v) = 0 := by pointwise []
  have e1 : ∀ k : Fin 24, res_main_v131 (F := Ideal) V0 (ix1 k) = (1 : EReal) := by
    intro k
    unfold res_main_v131
    clean_types
    pointwise []
  rw [e0, zero_add]
  exact (Finset.sum_congr rfl fun k _ => by rw [e1]).trans (degree12 v)

/-- The scaling of every node. -/
theorem dis_at (v : Fin 12) : res_main_v145 (F := Ideal) V0 (ix1 v) = (((Real.sqrt 2)⁻¹ : ℝ) : EReal) := by
  have e : ∀ d : EReal, res_main_v139 (F := Ideal) V0 (ix1 v) = d → res_main_v145 (F := Ideal) V0 (ix1 v)
      = (if 0 < d then Ideal.div 1 (Ideal.sqrt d) else (id (constant S_ .f32 0#32) : FVec Ideal S_ .f32) ix0 : EReal) := by
    rintro _ rfl
    unfold res_main_v145
    clean_types
    pointwise []
  rw [e _ (deg_at h v)]
  exact scale_two _

/-- Every edge's weight is minus one half. -/
theorem edge_at (e : Fin 24) : edge (res_main_v145 V0) (res_main_v131 V0) (res_main_v128 V0) (res_main_v130 V0) (ix1 e) = ((-(1 / 2) : ℝ) : EReal) := by
  have e1 : ∀ k : Fin 24, res_main_v131 (F := Ideal) V0 (ix1 k) = (1 : EReal) := by
    intro k
    unfold res_main_v131
    clean_types
    pointwise []
  have ht : ∀ (s : IVec S24 32) (src : Fin 24 → Fin 12), (∀ e, s (ix1 e) = BitVec.ofNat 32 (src e).val) →
      Host.gather gather_S12_S24x1_S24_n_0_n_n_0_1_1 (res_main_v145 (F := Ideal) V0) (wrapped s) (ix1 e) = (((Real.sqrt 2)⁻¹ : ℝ) : EReal) :=
    fun s src hs => (Routing.gather_take1 gather_S12_S24x1_S24_n_0_n_n_0_1_1 rfl rfl rfl rfl _ _ e (src e) (wrapped_at s src hs e) (by norm_num)).trans
      (dis_at h (src e))
  have e2 : edge (res_main_v145 V0) (res_main_v131 V0) (res_main_v128 V0) (res_main_v130 V0) (ix1 e)
      = -(Host.gather gather_S12_S24x1_S24_n_0_n_n_0_1_1 (res_main_v145 (F := Ideal) V0) (wrapped (res_main_v128 V0)) (ix1 e) : EReal)
        * res_main_v131 (F := Ideal) V0 (ix1 e)
        * Host.gather gather_S12_S24x1_S24_n_0_n_n_0_1_1 (res_main_v145 (F := Ideal) V0) (wrapped (res_main_v130 V0)) (ix1 e) := rfl
  rw [e2, e1, ht _ _ (src_at h), ht _ _ (dst_at h)]
  exact minus_half

/-! ## Layers -/

/-- The convolution's features. -/
theorem feat_at (r : Fin 1024) (v : Fin 12) (f : Fin 800) :
    res_main_v126 (F := Ideal) V0 (ix3 r v f) = (feat (x r) (tap a.w) (fun f => a.b (chan f)) v f : EReal) := by
  have hp : ∀ (j : Fin 27) (i : Fin 12288), i.val = r.val * 12 + v.val → res_main_v96 (F := Ideal) V0 (ix2 i j) = (padded (x r v) j.val : EReal) := by
    intro j i hi
    have e : res_main_v96 (F := Ideal) V0 (ix2 i j) = if g : 1 ≤ j.val ∧ j.val - 1 < 25 then
        V0 (Proc.devRef .tc main_arg1) (ix3 (⟨i.val / 12, by omega⟩ : Fin 1024) (⟨i.val % 12, by omega⟩ : Fin 12) (⟨j.val - 1, g.2⟩ : Fin 25))
        else FloatOps.sitofp (F := Ideal) .f32 0#32 := by
      unfold res_main_v96
      clean_types
      pointwise []
    have i1 : (⟨i.val / 12, by omega⟩ : Fin 1024) = r := Fin.ext (by show i.val / 12 = r.val; omega)
    have i2 : (⟨i.val % 12, by omega⟩ : Fin 12) = v := Fin.ext (by show i.val % 12 = v.val; omega)
    rw [e, padded]
    by_cases g : 1 ≤ j.val ∧ j.val < 26
    · rw [dif_pos ⟨g.1, by omega⟩, dif_pos g, i1, i2]
      exact h.x r v _
    · rw [dif_neg (by omega), dif_neg g]
      exact zero_word
  have e : ∀ p0 p1 p2 k0 k1 k2 b : EReal,
      res_main_v96 (F := Ideal) V0 (ix2 (⟨r.val * 12 + v.val, by omega⟩ : Fin 12288) (⟨f.val % 25, by omega⟩ : Fin 27)) = p0 →
      res_main_v96 (F := Ideal) V0 (ix2 (⟨r.val * 12 + v.val, by omega⟩ : Fin 12288) (⟨1 + f.val % 25, by omega⟩ : Fin 27)) = p1 →
      res_main_v96 (F := Ideal) V0 (ix2 (⟨r.val * 12 + v.val, by omega⟩ : Fin 12288) (⟨2 + f.val % 25, by omega⟩ : Fin 27)) = p2 →
      V0 (Proc.devRef .tc main_arg4) (ix3 (⟨f.val / 25, by omega⟩ : Fin 32) (0 : Fin 1) (0 : Fin 3)) = k0 →
      V0 (Proc.devRef .tc main_arg4) (ix3 (⟨f.val / 25, by omega⟩ : Fin 32) (0 : Fin 1) (1 : Fin 3)) = k1 →
      V0 (Proc.devRef .tc main_arg4) (ix3 (⟨f.val / 25, by omega⟩ : Fin 32) (0 : Fin 1) (2 : Fin 3)) = k2 →
      V0 (Proc.devRef .tc main_arg5) (ix1 (⟨f.val / 25, by omega⟩ : Fin 32)) = b →
      res_main_v126 (F := Ideal) V0 (ix3 r v f) = p0 * k0 + p1 * k1 + p2 * k2 + b := by
    rintro _ _ _ _ _ _ _ rfl rfl rfl rfl rfl rfl rfl
    unfold res_main_v126
    clean_types
    pointwise []
  rw [e _ _ _ _ _ _ _ (hp _ _ rfl) (hp _ _ rfl) (hp _ _ rfl) (h.w _ _) (h.w _ _) (h.w _ _) (h.b _), feat, ← conv_eq]
  simp only [← EReal.coe_mul, ← EReal.coe_add, add_comm 1, add_comm 2, add_zero]
  rfl

/-- The neighbours' features: minus half the sum over the two neighbours. -/
theorem nbr_at (r : Fin 1024) (v : Fin 12) (f : Fin 800) :
    nbr (res_main_v126 V0) (edge (res_main_v145 V0) (res_main_v131 V0) (res_main_v128 V0) (res_main_v130 V0)) (res_main_v128 V0) (res_main_v130 V0) (ix3 r v f)
      = ((-(1 / 2) * (feat (x r) (tap a.w) (fun f => a.b (chan f)) ((succ 11).symm v) f
          + feat (x r) (tap a.w) (fun f => a.b (chan f)) ((succ 11) v) f) : ℝ) : EReal) := by
  refine (sum3 scatter_S1024x12x800_S24x1_S1024x24x800_02_1_1_1 rfl rfl rfl rfl _ _ _ dst12 (by norm_num) (wrapped_at _ _ (dst_at h)) r v f).trans ?_
  have e0 : (broadcastInDim S1024x12x800 ![1, 2] bcast_S12x800_S1024x12x800_1_2
      (broadcastInDim S12x800 ![] bcast_S_S12x800 (constant S_ .f32 0x00000000#32)) : FVec Ideal S1024x12x800 .f32) (ix3 r v f) = 0 := by
    pointwise []
  rw [e0, zero_add]
  have e1 : ∀ k : Fin 24, (mulf (Host.gather gather_S1024x12x800_S24x1_S1024x24x800_02_1_n_n_1_1_10241800 (res_main_v126 V0) (wrapped (res_main_v128 V0)))
      (broadcastInDim S1024x24x800 ![0, 1, 2] bcast_S1x24x1_S1024x24x800_0_1_2 (broadcastInDim S1x24x1 ![1, 2] bcast_S24x1_S1x24x1_1_2
        (broadcastInDim S24x1 ![0] bcast_S24_S24x1_0 (edge (res_main_v145 V0) (res_main_v131 V0) (res_main_v128 V0) (res_main_v130 V0)))))
        : FVec Ideal S1024x24x800 .f32) (ix3 r k f)
      = ((feat (x r) (tap a.w) (fun f => a.b (chan f)) (src12 k) f * -(1 / 2) : ℝ) : EReal) := by
    intro k
    have g := take3 gather_S1024x12x800_S24x1_S1024x24x800_02_1_n_n_1_1_10241800 rfl rfl rfl rfl rfl rfl rfl (res_main_v126 (F := Ideal) V0)
      (wrapped (res_main_v128 V0)) src12 (by norm_num) (wrapped_at _ _ (src_at h)) r k f
    rw [EReal.coe_mul]
    refine congrArg₂ (fun p q : EReal => p * q) (g.trans (feat_at h r (src12 k) f)) ?_
    have ge : ∀ wt : FVec Ideal S24 .f32, (broadcastInDim S1024x24x800 ![0, 1, 2] bcast_S1x24x1_S1024x24x800_0_1_2 (broadcastInDim S1x24x1 ![1, 2]
        bcast_S24x1_S1x24x1_1_2 (broadcastInDim S24x1 ![0] bcast_S24_S24x1_0 wt)) : FVec Ideal S1024x24x800 .f32) (ix3 r k f) = wt (ix1 k) := by
      intro wt
      pointwise []
    exact (ge _).trans (edge_at h k)
  refine (Finset.sum_congr rfl fun k _ => by rw [e1]).trans
    ((ring12 (fun u => ((feat (x r) (tap a.w) (fun f => a.b (chan f)) u f * -(1 / 2) : ℝ) : EReal)) v).trans ?_)
  rw [← EReal.coe_add]
  refine congrArg _ ?_
  have n0 : (succ 11).symm v = v - 1 := by rw [sub_eq_add_neg]; rfl
  have n1 : (succ 11) v = v + 1 := rfl
  rw [n0, n1]
  ring

/-- An entry of the branch is the real value of its layers, plus the projection bias. -/
theorem branch_real (r : Fin 1024) (q : Fin 256) :
    res_main_v199 (F := Ideal) V0 (ix2 r q) = (a.layers (x r) q : EReal) + V0 (Proc.devRef .tc main_arg15) (ix1 q) := by
  have e : ∀ (e nb : FVec Ideal S1024x12x800 .f32) (w0 w1 : FVec Ideal S800x64 .f32) (gb : FVec Ideal S64 .f32)
      (p : FVec Ideal S768x256 .f32) (pb : FVec Ideal S256 .f32), proj e nb w0 w1 gb p pb (ix2 r q)
      = (∑ i : Fin 768, ((∑ f, e (ix3 r (⟨i.val / 64, by omega⟩ : Fin 12) f) * w0 (ix2 f (⟨i.val % 64, by omega⟩ : Fin 64)))
          + (∑ f, nb (ix3 r (⟨i.val / 64, by omega⟩ : Fin 12) f) * w1 (ix2 f (⟨i.val % 64, by omega⟩ : Fin 64)))
          + gb (ix1 (⟨i.val % 64, by omega⟩ : Fin 64))) * p (ix2 i q)) + pb (ix1 q) := by
    intro e nb w0 w1 gb p pb
    pointwise [proj]
  rw [branch_eq, e, sum768, Weights.layers]
  refine congrArg (· + _) ?_
  rw [coe_sum]
  refine Finset.sum_congr rfl fun v _ => ?_
  rw [coe_sum]
  refine Finset.sum_congr rfl fun o _ => ?_
  have i1 : (⟨(64 * v.val + o.val) / 64, by omega⟩ : Fin 12) = v := Fin.ext (by show (64 * v.val + o.val) / 64 = v.val; omega)
  have i2 : (⟨(64 * v.val + o.val) % 64, by omega⟩ : Fin 64) = o := Fin.ext (by show (64 * v.val + o.val) % 64 = o.val; omega)
  dsimp only
  rw [i1, i2, h.P, h.gb, EReal.coe_mul, gcn, EReal.coe_add, EReal.coe_add, coe_sum, coe_sum]
  refine congrArg (fun z : EReal => (z + _) * _) ?_
  refine congrArg₂ (fun p q : EReal => p + q) (Finset.sum_congr rfl fun f _ => ?_) (Finset.sum_congr rfl fun f _ => ?_)
  · rw [feat_at h, h.W0, ← EReal.coe_mul]
  · rw [nbr_at h, h.W1, ← EReal.coe_mul]

end Cert.Ref12

end
-- ==== Proof.RefHead.lean ====
/- The reference's result, one entry at a time: the head of the two branches. -/
module

public import proofs.«01_k».proof.Proof.Gen.ReferenceIdeal.Run
public import proofs.«01_k».proof.Proof.RealModel
public import Idealize.ShloMosaic.Lib.Pointwise
public import Idealize.ShloMosaic.Lib.Tactic.CleanTypes

@[expose] public section

set_option maxRecDepth 16384

noncomputable section

namespace Cert.RefHead

open Cert.ReferenceIdeal Cert.ReferenceIdeal.Gen Cert.ReferenceIdeal.Value Cert.RealModel Idealize.ShloMosaic Idealize.SL.Sem

/-- What the reference computes from its arguments. -/
def result {F : FTy → Type} [FloatOps F] (V0 : Valuation τ sig (Elt F)) : (Proc.devRef .tc main_v229 : DevRef τ sig).ty.Contents (Elt F) :=
  Host.divf (broadcastInDim S1024x1 ![] bcast_S_S1024x1 (constant S_ .f32 0x3F800000#32)) (addf (broadcastInDim S1024x1 ![] bcast_S_S1024x1
    (constant S_ .f32 0x3F800000#32)) (Host.exp (Host.negf (addf (Host.dotGeneral dot_S1024x256_S256x1_S1024x1_1_0_0_1_n_n none (maximumf (addf
    (mulf (broadcastInDim S1024x256 ![0, 1] bcast_S1024x1_S1024x256_0_1 (res_main_v211 V0)) (res_main_v194 V0)) (mulf (broadcastInDim S1024x256
    ![0, 1] bcast_S1024x1_S1024x256_0_1 (subf (broadcastInDim S1024x1 ![] bcast_S_S1024x1 (constant S_ .f32 0x3F800000#32)) (res_main_v211 V0)))
    (res_main_v199 V0))) (broadcastInDim S1024x256 ![] bcast_S_S1024x256 (constant S_ .f32 0x00000000#32))) (V0 (Proc.devRef .tc main_arg18)))
    (broadcastInDim S1024x1 ![0, 1] bcast_S1x1_S1024x1_0_1 (broadcastInDim S1x1 ![1] bcast_S1_S1x1_1 (V0 (Proc.devRef .tc main_arg19))))))))

/-- The attention weight of a row. -/
theorem attn_at (V0 : Valuation τ sig (Elt Ideal)) (ge gr aw : Fin 256 → EReal) (ab : EReal) (r : Fin 1024)
    (hge : ∀ q, res_main_v194 (F := Ideal) V0 (ix2 r q) = ge q) (hgr : ∀ q, res_main_v199 (F := Ideal) V0 (ix2 r q) = gr q)
    (haw : ∀ q : Fin 256, V0 (Proc.devRef .tc main_arg16) (ix2 q (0 : Fin 1)) = aw q) (hab : V0 (Proc.devRef .tc main_arg17) (ix1 (0 : Fin 1)) = ab) :
    res_main_v211 (F := Ideal) V0 (ix2 r (0 : Fin 1)) = Ideal.logistic (∑ p, Ideal.tanh (ge p + gr p) * aw p + ab) := by
  obtain rfl : (fun q => res_main_v194 (F := Ideal) V0 (ix2 r q)) = ge := funext hge
  obtain rfl : (fun q => res_main_v199 (F := Ideal) V0 (ix2 r q)) = gr := funext hgr
  obtain rfl : (fun q : Fin 256 => V0 (Proc.devRef .tc main_arg16) (ix2 q (0 : Fin 1))) = aw := funext haw
  subst hab
  unfold res_main_v211
  clean_types
  pointwise [Ideal.logistic]

/-- A row of the reference's result is the head of its two branches. -/
theorem result_at (V0 : Valuation τ sig (Elt Ideal)) (ge gr aw fw : Fin 256 → EReal) (ab fb : EReal) (r : Fin 1024)
    (hge : ∀ q, res_main_v194 (F := Ideal) V0 (ix2 r q) = ge q) (hgr : ∀ q, res_main_v199 (F := Ideal) V0 (ix2 r q) = gr q)
    (haw : ∀ q : Fin 256, V0 (Proc.devRef .tc main_arg16) (ix2 q (0 : Fin 1)) = aw q) (hab : V0 (Proc.devRef .tc main_arg17) (ix1 (0 : Fin 1)) = ab)
    (hfw : ∀ q : Fin 256, V0 (Proc.devRef .tc main_arg18) (ix2 q (0 : Fin 1)) = fw q) (hfb : V0 (Proc.devRef .tc main_arg19) (ix1 (0 : Fin 1)) = fb) :
    result (F := Ideal) V0 (ix2 r (0 : Fin 1)) = head ge gr aw fw ab fb := by
  have hat := attn_at V0 ge gr aw ab r hge hgr haw hab
  rw [head, ← hat]
  clear hat haw hab
  obtain rfl : (fun q => res_main_v194 (F := Ideal) V0 (ix2 r q)) = ge := funext hge
  obtain rfl : (fun q => res_main_v199 (F := Ideal) V0 (ix2 r q)) = gr := funext hgr
  obtain rfl : (fun q : Fin 256 => V0 (Proc.devRef .tc main_arg18) (ix2 q (0 : Fin 1))) = fw := funext hfw
  subst hfb
  unfold result
  clean_types
  pointwise [Ideal.logistic]

end Cert.RefHead

end
-- ==== Proof.Finite.lean ====
/- What the precondition says of the arguments: the named arrays are real, and the edges are the two rings. -/
module

public import proofs.«01_k».proof.Pre_finite_on_rings
public import proofs.«01_k».proof.Proof.Gen.Pre_finite_on_rings
public import proofs.«01_k».proof.Proof.RealModel
public import proofs.«01_k».proof.Proof.Ring
public import Idealize.ShloMosaic.Lib.Pointwise
public import Idealize.ShloMosaic.Lib.ReduceAll

@[expose] public section

set_option maxRecDepth 16384

noncomputable section

namespace Cert.Finite

open Cert.Pre_finite_on_rings Cert.Pre_finite_on_rings.Gen Cert.RealModel Cert.Ring Idealize.ShloMosaic

/-- A number whose magnitude is below infinity is real. -/
theorem real_of_lt (z : EReal) (h : Ideal.cmp .olt (max z (-z)) (Ideal.ofBits .f32 0x7F800000#32) = 1#1) : ∃ y : ℝ, z = (y : EReal) := by
  have ht : Ideal.ofBits .f32 0x7F800000#32 = ⊤ := by simp [Ideal.ofBits, Ideal.ieee]
  have hl : max z (-z) < ⊤ := by
    by_contra hc
    rw [ht] at h
    simp [Ideal.cmp, hc] at h
  have h1 : z ≠ ⊤ := fun e => by simp [e] at hl
  have h2 : z ≠ ⊥ := fun e => by simp [e] at hl
  exact ⟨z.toReal, (EReal.coe_toReal h1 h2).symm⟩

/-- A single number has one place. -/
theorem one_index : Subsingleton S_.Idx := ⟨fun _ _ => funext fun k => k.elim0⟩

/-- An array all of whose magnitudes are below infinity is real. -/
theorem real_all {s : Shape} (x : FVec Ideal s .f32) (b : S_.BroadcastsInDim s (![] : Fin 0 → Fin s.rank)) {axes : List (Fin s.rank)}
    (r : s.ReducesTo axes S_) (h : 0 < S_.numel)
    (e : Host.reduce IntOp.andi (cmpf .olt (Host.absf x) (broadcastInDim s ![] b (constant S_ .f32 0x7F800000#32))) (constantI S_ 1 1#1) r h ix0 = 1#1) :
    ∃ y : s.Idx → ℝ, ∀ i, x i = (y i : EReal) := by
  haveI := one_index
  have hr : ∀ i, ∃ y : ℝ, x i = (y : EReal) := fun i => real_of_lt (x i) (Host.reduce_andi_all _ _ r h ix0 e i)
  exact ⟨fun i => (hr i).choose, fun i => (hr i).choose_spec⟩

/-- An array equal everywhere to a table holds the table's words. -/
theorem eq_all {s : Shape} (x t : IVec s 32) {axes : List (Fin s.rank)} (r : s.ReducesTo axes S_) (h : 0 < S_.numel)
    (e : Host.reduce IntOp.andi (cmpi .eq x t) (constantI S_ 1 1#1) r h ix0 = 1#1) (i : s.Idx) : x i = t i := by
  haveI := one_index
  have hi : IntOp.cmpi .eq (x i) (t i) = 1#1 := Host.reduce_andi_all _ _ r h ix0 e i
  by_contra hc
  have hd : BitVec.ofBool (x i == t i) = 1#1 := hi
  rw [beq_eq_false_iff_ne.2 hc] at hd
  exact absurd hd (by decide)

/-- A conjunction that holds has both parts. -/
theorem both (x y : IVec S_ 1) (h : andi x y ix0 = 1#1) : x ix0 = 1#1 ∧ y ix0 = 1#1 := IntOp.andi_eq_one.1 h

/-! ## The tables' words -/

/-- The precondition's table of edges is the ring's. -/
theorem src16_word (e : Fin 32) : lit0 (S2x32.rowMajor (ix2 (0 : Fin 2) e)) = BitVec.ofNat 32 (src16 e).val := by
  revert e; decide +kernel

/-- The same, for the targets. -/
theorem dst16_word (e : Fin 32) : lit0 (S2x32.rowMajor (ix2 (1 : Fin 2) e)) = BitVec.ofNat 32 (dst16 e).val := by
  revert e; decide +kernel

/-- The same, for the ring of 12 nodes. -/
theorem src12_word (e : Fin 24) : lit1 (S2x24.rowMajor (ix2 (0 : Fin 2) e)) = BitVec.ofNat 32 (src12 e).val := by
  revert e; decide +kernel

/-- The same, for the targets of the ring of 12 nodes. -/
theorem dst12_word (e : Fin 24) : lit1 (S2x24.rowMajor (ix2 (1 : Fin 2) e)) = BitVec.ofNat 32 (dst12 e).val := by
  revert e; decide +kernel

variable (a0 : FVec Ideal S1024x16x25 .f32) (a1 : FVec Ideal S1024x12x25 .f32) (a2 : FVec Ideal S32x1x3 .f32) (a3 : FVec Ideal S32 .f32) (a4 : FVec Ideal S32x1x3 .f32) (a5 : FVec Ideal S32 .f32) (a6 : FVec Ideal S800x64 .f32) (a7 : FVec Ideal S800x64 .f32) (a8 : FVec Ideal S64 .f32) (a9 : FVec Ideal S800x64 .f32)
  (a10 : FVec Ideal S800x64 .f32) (a11 : FVec Ideal S64 .f32) (a12 : FVec Ideal S1024x256 .f32) (a13 : FVec Ideal S256 .f32) (a14 : FVec Ideal S768x256 .f32) (a15 : FVec Ideal S256 .f32) (a16 : FVec Ideal S256x1 .f32) (a17 : FVec Ideal S1 .f32) (a18 : FVec Ideal S256x1 .f32) (a19 : FVec Ideal S1 .f32)
  (a20 : IVec S2x32 32) (a21 : IVec S2x24 32)

/-- The arguments of the branch of 16 nodes. -/
theorem args16 (h : fn (F := Ideal) a0 a1 a2 a3 a4 a5 a6 a7 a8 a9 a10 a11 a12 a13 a14 a15 a16 a17 a18 a19 a20 a21 = fun _ => 1#1) :
    ∃ (a : Weights 15) (x : Fin 1024 → Fin 16 → Fin 25 → ℝ),
      (∀ r v t, a0 (ix3 r v t) = (x r v t : EReal))
      ∧ (∀ k t, a2 (ix3 k (0 : Fin 1) t) = (a.w k t : EReal)) ∧ (∀ k, a3 (ix1 k) = (a.b k : EReal))
      ∧ (∀ f o, a6 (ix2 f o) = (a.W0 f o : EReal)) ∧ (∀ f o, a7 (ix2 f o) = (a.W1 f o : EReal))
      ∧ (∀ o, a8 (ix1 o) = (a.gb o : EReal))
      ∧ (∀ (v : Fin 16) (o : Fin 64) (q : Fin 256), a12 (ix2 (⟨64 * v.val + o.val, by omega⟩ : Fin 1024) q) = (a.P v o q : EReal))
      ∧ (∀ e, a20 (ix2 (0 : Fin 2) e) = BitVec.ofNat 32 (src16 e).val) ∧ (∀ e, a20 (ix2 (1 : Fin 2) e) = BitVec.ofNat 32 (dst16 e).val) := by
  replace h := congrFun h ix0
  unfold fn fn_part1 fn_part2 fn_part3 fn_part4 at h
  dsimp only at h
  obtain ⟨h, h14⟩ := both _ _ h
  obtain ⟨h, h12⟩ := both _ _ h
  obtain ⟨h, h11⟩ := both _ _ h
  obtain ⟨h, h10⟩ := both _ _ h
  obtain ⟨h, h9⟩ := both _ _ h
  obtain ⟨h, h8⟩ := both _ _ h
  obtain ⟨h, h7⟩ := both _ _ h
  obtain ⟨h, h6⟩ := both _ _ h
  obtain ⟨h, h5⟩ := both _ _ h
  obtain ⟨h, h4⟩ := both _ _ h
  obtain ⟨h, h3⟩ := both _ _ h
  obtain ⟨h, h2⟩ := both _ _ h
  obtain ⟨h, h1⟩ := both _ _ h
  obtain ⟨h, h0⟩ := both _ _ h
  obtain ⟨h20, h21⟩ := both _ _ h
  obtain ⟨x, hx⟩ := real_all _ _ _ _ h0
  obtain ⟨w, hw⟩ := real_all _ _ _ _ h2
  obtain ⟨b, hb⟩ := real_all _ _ _ _ h3
  obtain ⟨w0, h0⟩ := real_all _ _ _ _ h6
  obtain ⟨w1, h1⟩ := real_all _ _ _ _ h7
  obtain ⟨g, hg⟩ := real_all _ _ _ _ h8
  obtain ⟨p, hp⟩ := real_all _ _ _ _ h12
  refine ⟨⟨fun k t => w (ix3 k 0 t), fun k => b (ix1 k), fun f o => w0 (ix2 f o), fun f o => w1 (ix2 f o), fun o => g (ix1 o),
    fun v o q => p (ix2 (⟨64 * v.val + o.val, by omega⟩ : Fin 1024) q)⟩, fun r v t => x (ix3 r v t), fun r v t => hx _, fun k t => hw _, fun k => hb _,
    fun f o => h0 _, fun f o => h1 _, fun o => hg _, fun v o q => hp _, fun e => ?_, fun e => ?_⟩
  · exact (eq_all _ _ _ _ h20 _).trans (src16_word e)
  · exact (eq_all _ _ _ _ h20 _).trans (dst16_word e)

/-- The arguments of the branch of 12 nodes. -/
theorem args12 (h : fn (F := Ideal) a0 a1 a2 a3 a4 a5 a6 a7 a8 a9 a10 a11 a12 a13 a14 a15 a16 a17 a18 a19 a20 a21 = fun _ => 1#1) :
    ∃ (a : Weights 11) (x : Fin 1024 → Fin 12 → Fin 25 → ℝ),
      (∀ r v t, a1 (ix3 r v t) = (x r v t : EReal))
      ∧ (∀ k t, a4 (ix3 k (0 : Fin 1) t) = (a.w k t : EReal)) ∧ (∀ k, a5 (ix1 k) = (a.b k : EReal))
      ∧ (∀ f o, a9 (ix2 f o) = (a.W0 f o : EReal)) ∧ (∀ f o, a10 (ix2 f o) = (a.W1 f o : EReal))
      ∧ (∀ o, a11 (ix1 o) = (a.gb o : EReal))
      ∧ (∀ (v : Fin 12) (o : Fin 64) (q : Fin 256), a14 (ix2 (⟨64 * v.val + o.val, by omega⟩ : Fin 768) q) = (a.P v o q : EReal))
      ∧ (∀ e, a21 (ix2 (0 : Fin 2) e) = BitVec.ofNat 32 (src12 e).val) ∧ (∀ e, a21 (ix2 (1 : Fin 2) e) = BitVec.ofNat 32 (dst12 e).val) := by
  replace h := congrFun h ix0
  unfold fn fn_part1 fn_part2 fn_part3 fn_part4 at h
  dsimp only at h
  obtain ⟨h, h14⟩ := both _ _ h
  obtain ⟨h, h12⟩ := both _ _ h
  obtain ⟨h, h11⟩ := both _ _ h
  obtain ⟨h, h10⟩ := both _ _ h
  obtain ⟨h, h9⟩ := both _ _ h
  obtain ⟨h, h8⟩ := both _ _ h
  obtain ⟨h, h7⟩ := both _ _ h
  obtain ⟨h, h6⟩ := both _ _ h
  obtain ⟨h, h5⟩ := both _ _ h
  obtain ⟨h, h4⟩ := both _ _ h
  obtain ⟨h, h3⟩ := both _ _ h
  obtain ⟨h, h2⟩ := both _ _ h
  obtain ⟨h, h1⟩ := both _ _ h
  obtain ⟨h, h0⟩ := both _ _ h
  obtain ⟨h20, h21⟩ := both _ _ h
  obtain ⟨x, hx⟩ := real_all _ _ _ _ h1
  obtain ⟨w, hw⟩ := real_all _ _ _ _ h4
  obtain ⟨b, hb⟩ := real_all _ _ _ _ h5
  obtain ⟨w0, h0⟩ := real_all _ _ _ _ h9
  obtain ⟨w1, h1⟩ := real_all _ _ _ _ h10
  obtain ⟨g, hg⟩ := real_all _ _ _ _ h11
  obtain ⟨p, hp⟩ := real_all _ _ _ _ h14
  refine ⟨⟨fun k t => w (ix3 k 0 t), fun k => b (ix1 k), fun f o => w0 (ix2 f o), fun f o => w1 (ix2 f o), fun o => g (ix1 o),
    fun v o q => p (ix2 (⟨64 * v.val + o.val, by omega⟩ : Fin 768) q)⟩, fun r v t => x (ix3 r v t), fun r v t => hx _, fun k t => hw _, fun k => hb _,
    fun f o => h0 _, fun f o => h1 _, fun o => hg _, fun v o q => hp _, fun e => ?_, fun e => ?_⟩
  · exact (eq_all _ _ _ _ h21 _).trans (src12_word e)
  · exact (eq_all _ _ _ _ h21 _).trans (dst12_word e)

end Cert.Finite

end
-- ==== Proof.Agree.lean ====
/- The kernel's result is the reference's, on every device. -/
module

public import proofs.«01_k».proof.Proof.KernelRun
public import proofs.«01_k».proof.Proof.Ref16
public import proofs.«01_k».proof.Proof.Ref12
public import proofs.«01_k».proof.Proof.RefHead
public import proofs.«01_k».proof.Proof.Finite

@[expose] public section

set_option maxRecDepth 16384

noncomputable section

namespace Cert.Agree

open Cert.RealModel Idealize.ShloMosaic Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Every place of the one-column result is a row. -/
theorem column (j : Cert.KernelIdeal.S1024x1.Idx) : ∃ r : Fin 1024, j = ix2 r (0 : Fin 1) := by
  refine ⟨j 0, funext fun k => ?_⟩
  match k with
  | 0 => rfl
  | 1 => exact Subsingleton.elim (α := Fin 1) _ _

/-- From equal arguments that meet the precondition, the two results are equal. -/
theorem agree
    (h : Cert.Pre_finite_on_rings.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21)) = fun _ => 1#1)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (e21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    (Cert.KernelIdeal.Gen.dats m 0 c).arrAt 5 Cert.KernelIdeal.cfg0.N = Cert.RefHead.result (F := Ideal) (launchContents m' c) := by
  obtain ⟨a, x, hx, hw, hb, h0, h1, hg, hP, hs, hd⟩ := Cert.Finite.args16 _ _ _ _ _ _ _ _ _ _ _ _ _ _ _ _ _ _ _ _ _ _ h
  obtain ⟨b, y, ky, kw, kb, k0, k1, kg, kP, ks, kd⟩ := Cert.Finite.args12 _ _ _ _ _ _ _ _ _ _ _ _ _ _ _ _ _ _ _ _ _ _ h
  have KA := Cert.KernelPack.held_ecc m c hw hb hg h0 h1 hP
  have KB := Cert.KernelPack.held_err m c kw kb kg k0 k1 kP
  have RA : Cert.Ref16.Held (launchContents m' c) a x :=
    ⟨fun r v t => (congrFun e0 _).trans (hx r v t), fun k t => (congrFun e2 _).trans (hw k t), fun k => (congrFun e3 _).trans (hb k),
      fun f o => (congrFun e6 _).trans (h0 f o), fun f o => (congrFun e7 _).trans (h1 f o), fun o => (congrFun e8 _).trans (hg o),
      fun v o q => (congrFun e12 _).trans (hP v o q), fun e => (congrFun e20 _).trans (hs e), fun e => (congrFun e20 _).trans (hd e)⟩
  have RB : Cert.Ref12.Held (launchContents m' c) b y :=
    ⟨fun r v t => (congrFun e1 _).trans (ky r v t), fun k t => (congrFun e4 _).trans (kw k t), fun k => (congrFun e5 _).trans (kb k),
      fun f o => (congrFun e9 _).trans (k0 f o), fun f o => (congrFun e10 _).trans (k1 f o), fun o => (congrFun e11 _).trans (kg o),
      fun v o q => (congrFun e14 _).trans (kP v o q), fun e => (congrFun e21 _).trans (ks e), fun e => (congrFun e21 _).trans (kd e)⟩
  rw [Cert.KernelRun.final m c]
  funext j
  obtain ⟨r, rfl⟩ := column j
  refine (Cert.KernelHead.out_real _ _ _ _ _ KA KB x y (fun r v t => (Cert.KernelPack.ecc_at m c r v t).trans (hx r v t))
    (fun r v t => (Cert.KernelPack.err_at m c r v t).trans (ky r v t)) r).trans ?_
  exact (Cert.RefHead.result_at (launchContents m' c) _ _ _ _ _ _ r
    (fun q => (Cert.Ref16.branch_real RA r q).trans
      (congrArg₂ (fun u v : EReal => u + v) (congrArg (fun u : ℝ => (u : EReal)) (a.folded_eq (x r) q).symm) (congrFun e13 _)))
    (fun q => (Cert.Ref12.branch_real RB r q).trans
      (congrArg₂ (fun u v : EReal => u + v) (congrArg (fun u : ℝ => (u : EReal)) (b.folded_eq (y r) q).symm) (congrFun e15 _)))
    (fun q => (congrFun e16 _).trans (Cert.KernelPack.attn_at m c q).symm) ((congrFun e17 _).trans (Cert.KernelPack.attn_bias m c).symm)
    (fun q => (congrFun e18 _).trans (Cert.KernelPack.fc_at m c q).symm) ((congrFun e19 _).trans (Cert.KernelPack.fc_bias m c).symm)).symm

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite_on_rings
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs, leaves its arguments as they were, and has no semaphore to leave up. -/
theorem frame_reference : quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- From equal arguments that meet the precondition, the kernel and the reference end with equal results. -/
theorem algebraic : algebraic_KernelIdeal_ReferenceIdeal_pre_finite_on_rings (hKernelIdeal := Cert.KernelIdeal.Gen.facts)
    (hReferenceIdeal := Cert.ReferenceIdeal.Gen.facts) (hPre_finite_on_rings := Cert.Pre_finite_on_rings.Gen.facts) := by
  intro m g m' g' hp hargs
  refine ⟨fun c => (Cert.KernelIdeal.Gen.dats m 0 c).arrAt 5 Cert.KernelIdeal.cfg0.N, ?_, ?_⟩
  · exact Cert.KernelIdeal.Value.run_blocks m g
  · refine (θ_run Cert.ReferenceIdeal.defs _ _).mono (fun r h c => ⟨(h c).1.trans ?_, (h c).2⟩) (Cert.ReferenceIdeal.Value.run m' g')
    obtain ⟨e0, e1, e2, e3, e4, e5, e6, e7, e8, e9, e10, e11, e12, e13, e14, e15, e16, e17, e18, e19, e20, e21⟩ := hargs c
    exact (Cert.Agree.agree m m' c (hp c) e0 e1 e2 e3 e4 e5 e6 e7 e8 e9 e10 e11 e12 e13 e14 e15 e16 e17 e18 e19 e20 e21).symm

theorem claim : Cert.Claim := ⟨Cert.Kernel.Gen.facts, Cert.KernelIdeal.Gen.facts, Cert.ReferenceIdeal.Gen.facts, Cert.Pre_finite_on_rings.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
